-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x2048 : Shape := ⟨2, ![512, 2048]⟩
abbrev S2048x2048 : Shape := ⟨2, ![2048, 2048]⟩
abbrev S2x2048x1024 : Shape := ⟨3, ![2, 2048, 1024]⟩
abbrev S2x3x512x1024 : Shape := ⟨4, ![2, 3, 512, 1024]⟩
abbrev S2x6 : Shape := ⟨2, ![2, 6]⟩
abbrev S_ : Shape := ⟨0, ![]⟩
abbrev S512x1024 : Shape := ⟨2, ![512, 1024]⟩
abbrev S2048x1024 : Shape := ⟨2, ![2048, 1024]⟩
abbrev S1x2048x1024 : Shape := ⟨3, ![1, 2048, 1024]⟩
abbrev S1x1 : Shape := ⟨2, ![1, 1]⟩
abbrev S1x1x512x1024 : Shape := ⟨4, ![1, 1, 512, 1024]⟩
abbrev S1x512x1024 : Shape := ⟨3, ![1, 512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .f32⟩
  | .local _ .vmem, ⟨0, _⟩ => ⟨S2048x512, .bf16⟩
  | .local _ .vmem, ⟨1, _⟩ => ⟨S512x2048, .bf16⟩
  | .local _ .vmem, ⟨2, _⟩ => ⟨S2048x2048, .f32⟩
  | .local _ .vmem, ⟨3, _⟩ => ⟨S2x2048x1024, .bf16⟩
  | .local _ .vmem, ⟨4, _⟩ => ⟨S2x3x512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_29 : BitVec 32) : Fin 3 → Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c24_i32 : BitVec 32 := 24#32
  let v47 : BitVec 32 := Scalar.addi v2 c24_i32
  let v48 : BitVec 32 := Scalar.addi v47 c0_i32_29
  let c4_i32_30 : BitVec 32 := 4#32
  let c0_i32_31 : BitVec 32 := 0#32
  let v49 : BitVec 1 := Scalar.cmpi .eq c4_i32_30 c0_i32_31
  let c1_i32_32 : BitVec 32 := 1#32
  let v50 : BitVec 32 := Scalar.select v49 c1_i32_32 c4_i32_30
  let v51 : BitVec 32 := Scalar.remsi v48 v50
  let c0_i32_34 : BitVec 32 := 0#32
  let v53 : BitVec 1 := Scalar.cmpi .slt v51 c0_i32_34
  let c0_i32_35 : BitVec 32 := 0#32
  let v54 : BitVec 1 := Scalar.cmpi .slt v50 c0_i32_35
  let v55 : BitVec 1 := Scalar.xori v53 v54
  let c0_i32_33 : BitVec 32 := 0#32
  let v52 : BitVec 1 := Scalar.cmpi .ne v51 c0_i32_33
  let v56 : BitVec 1 := Scalar.andi v55 v52
  let v57 : BitVec 32 := Scalar.addi v51 v50
  let v58 : BitVec 32 := Scalar.select v56 v57 v51
  let c512_i32 : BitVec 32 := 512#32
  let v59 : BitVec 32 := Scalar.muli v58 c512_i32
  let c0_i32_47 : BitVec 32 := 0#32
  ![0, v59.toNat, 0]
def k0_off1_at (r : Fin 6) : BitVec 32 :=
  if r.val < 3 then
    if r.val < 1 then
      0#32
    else
      if r.val < 2 then
        4294967295#32
      else
        4294967294#32
  else
    if r.val < 4 then
      4294967293#32
    else
      if r.val < 5 then
        4294967292#32
      else
        4294967291#32
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_43 : BitVec 32 := 1#32
  let v60 : BitVec 32 := Scalar.muli v25 c1_i32_43
  let v61 : BitVec 32 := Scalar.addi c0_i32_44 v60
  v61.toNat
def k0_off2 (d0 : Dev nD) (c0_i32_49 : BitVec 32) : Fin 3 → Nat :=
  let c1_i32_57 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c24_i32_48 : BitVec 32 := 24#32
  let v70 : BitVec 32 := Scalar.addi v2 c24_i32_48
  let v71 : BitVec 32 := Scalar.addi v70 c0_i32_49
  let c4_i32_50 : BitVec 32 := 4#32
  let c0_i32_51 : BitVec 32 := 0#32
  let v72 : BitVec 1 := Scalar.cmpi .eq c4_i32_50 c0_i32_51
  let c1_i32_52 : BitVec 32 := 1#32
  let v73 : BitVec 32 := Scalar.select v72 c1_i32_52 c4_i32_50
  let v74 : BitVec 32 := Scalar.remsi v71 v73
  let c0_i32_54 : BitVec 32 := 0#32
  let v76 : BitVec 1 := Scalar.cmpi .slt v74 c0_i32_54
  let c0_i32_55 : BitVec 32 := 0#32
  let v77 : BitVec 1 := Scalar.cmpi .slt v73 c0_i32_55
  let v78 : BitVec 1 := Scalar.xori v76 v77
  let c0_i32_53 : BitVec 32 := 0#32
  let v75 : BitVec 1 := Scalar.cmpi .ne v74 c0_i32_53
  let v79 : BitVec 1 := Scalar.andi v78 v75
  let v80 : BitVec 32 := Scalar.addi v74 v73
  let v81 : BitVec 32 := Scalar.select v79 v80 v74
  let c512_i32_56 : BitVec 32 := 512#32
  let v82 : BitVec 32 := Scalar.muli v81 c512_i32_56
  let c0_i32_68 : BitVec 32 := 0#32
  ![1, v82.toNat, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_64 : BitVec 32 := 1#32
  let v83 : BitVec 32 := Scalar.muli v14 c1_i32_64
  let v84 : BitVec 32 := Scalar.addi c0_i32_65 v83
  v84.toNat
def k0_off3 (d0 : Dev nD) (c_m1_i32 : BitVec 32) : Fin 3 → Nat :=
  let c0_100 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c24_i32_92 : BitVec 32 := 24#32
  let v107 : BitVec 32 := Scalar.addi v2 c24_i32_92
  let v108 : BitVec 32 := Scalar.addi v107 c_m1_i32
  let c4_i32_93 : BitVec 32 := 4#32
  let c0_i32_94 : BitVec 32 := 0#32
  let v109 : BitVec 1 := Scalar.cmpi .eq c4_i32_93 c0_i32_94
  let c1_i32_95 : BitVec 32 := 1#32
  let v110 : BitVec 32 := Scalar.select v109 c1_i32_95 c4_i32_93
  let v111 : BitVec 32 := Scalar.remsi v108 v110
  let c0_i32_97 : BitVec 32 := 0#32
  let v113 : BitVec 1 := Scalar.cmpi .slt v111 c0_i32_97
  let c0_i32_98 : BitVec 32 := 0#32
  let v114 : BitVec 1 := Scalar.cmpi .slt v110 c0_i32_98
  let v115 : BitVec 1 := Scalar.xori v113 v114
  let c0_i32_96 : BitVec 32 := 0#32
  let v112 : BitVec 1 := Scalar.cmpi .ne v111 c0_i32_96
  let v116 : BitVec 1 := Scalar.andi v115 v112
  let v117 : BitVec 32 := Scalar.addi v111 v110
  let v118 : BitVec 32 := Scalar.select v116 v117 v111
  let c512_i32_99 : BitVec 32 := 512#32
  let v119 : BitVec 32 := Scalar.muli v118 c512_i32_99
  let v120 : Index := Scalar.indexCast v119
  let c0_101 : Index := 0#32
  ![0, v120.toNat, 0]
def k0_dev5 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_125 : BitVec 32 := 1#32
  let v144 : BitVec 32 := Scalar.muli v25 c1_i32_125
  let v145 : BitVec 32 := Scalar.addi c0_i32_126 v144
  v145.toNat
def k0_off4 (d0 : Dev nD) (c1_i32_154 : BitVec 32) : Fin 3 → Nat :=
  let c1_162 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c24_i32_153 : BitVec 32 := 24#32
  let v168 : BitVec 32 := Scalar.addi v2 c24_i32_153
  let v169 : BitVec 32 := Scalar.addi v168 c1_i32_154
  let c4_i32_155 : BitVec 32 := 4#32
  let c0_i32_156 : BitVec 32 := 0#32
  let v170 : BitVec 1 := Scalar.cmpi .eq c4_i32_155 c0_i32_156
  let c1_i32_157 : BitVec 32 := 1#32
  let v171 : BitVec 32 := Scalar.select v170 c1_i32_157 c4_i32_155
  let v172 : BitVec 32 := Scalar.remsi v169 v171
  let c0_i32_159 : BitVec 32 := 0#32
  let v174 : BitVec 1 := Scalar.cmpi .slt v172 c0_i32_159
  let c0_i32_160 : BitVec 32 := 0#32
  let v175 : BitVec 1 := Scalar.cmpi .slt v171 c0_i32_160
  let v176 : BitVec 1 := Scalar.xori v174 v175
  let c0_i32_158 : BitVec 32 := 0#32
  let v173 : BitVec 1 := Scalar.cmpi .ne v172 c0_i32_158
  let v177 : BitVec 1 := Scalar.andi v176 v173
  let v178 : BitVec 32 := Scalar.addi v172 v171
  let v179 : BitVec 32 := Scalar.select v177 v178 v172
  let c512_i32_161 : BitVec 32 := 512#32
  let v180 : BitVec 32 := Scalar.muli v179 c512_i32_161
  let v181 : Index := Scalar.indexCast v180
  let c0_163 : Index := 0#32
  ![1, v181.toNat, 0]
def k0_dev6 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_187 : BitVec 32 := 1#32
  let v205 : BitVec 32 := Scalar.muli v14 c1_i32_187
  let v206 : BitVec 32 := Scalar.addi c0_i32_188 v205
  v206.toNat
def k0_dev7 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_248 : BitVec 32 := 1#32
  let v266 : BitVec 32 := Scalar.muli v25 c1_i32_248
  let v267 : BitVec 32 := Scalar.addi c0_i32_249 v266
  v267.toNat
def k0_dev8 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_310 : BitVec 32 := 1#32
  let v327 : BitVec 32 := Scalar.muli v14 c1_i32_310
  let v328 : BitVec 32 := Scalar.addi c0_i32_311 v327
  v328.toNat
def k0_dev9 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_368 : BitVec 32 := 1#32
  let v388 : BitVec 32 := Scalar.muli v25 c1_i32_368
  let v389 : BitVec 32 := Scalar.addi c0_i32_369 v388
  v389.toNat
def k0_off5 (d0 : Dev nD) (c_m3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c24_i32_338 : BitVec 32 := 24#32
  let v351 : BitVec 32 := Scalar.addi v2 c24_i32_338
  let v352 : BitVec 32 := Scalar.addi v351 c_m3_i32
  let c4_i32_339 : BitVec 32 := 4#32
  let c0_i32_340 : BitVec 32 := 0#32
  let v353 : BitVec 1 := Scalar.cmpi .eq c4_i32_339 c0_i32_340
  let c1_i32_341 : BitVec 32 := 1#32
  let v354 : BitVec 32 := Scalar.select v353 c1_i32_341 c4_i32_339
  let v355 : BitVec 32 := Scalar.remsi v352 v354
  let c0_i32_343 : BitVec 32 := 0#32
  let v357 : BitVec 1 := Scalar.cmpi .slt v355 c0_i32_343
  let c0_i32_344 : BitVec 32 := 0#32
  let v358 : BitVec 1 := Scalar.cmpi .slt v354 c0_i32_344
  let v359 : BitVec 1 := Scalar.xori v357 v358
  let c0_i32_342 : BitVec 32 := 0#32
  let v356 : BitVec 1 := Scalar.cmpi .ne v355 c0_i32_342
  let v360 : BitVec 1 := Scalar.andi v359 v356
  let v361 : BitVec 32 := Scalar.addi v355 v354
  let v362 : BitVec 32 := Scalar.select v360 v361 v355
  let c512_i32_376 : BitVec 32 := 512#32
  let v405 : BitVec 32 := Scalar.muli v362 c512_i32_376
  let v406 : Index := Scalar.indexCast v405
  let c0_377 : Index := 0#32
  ![v406.toNat, 0]
def k0_dev10 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_434 : BitVec 32 := 1#32
  let v459 : BitVec 32 := Scalar.muli v14 c1_i32_434
  let v460 : BitVec 32 := Scalar.addi c0_i32_435 v459
  v460.toNat
def k0_off6 (d0 : Dev nD) (c3_i32_402 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c24_i32_401 : BitVec 32 := 24#32
  let v422 : BitVec 32 := Scalar.addi v2 c24_i32_401
  let v423 : BitVec 32 := Scalar.addi v422 c3_i32_402
  let c4_i32_403 : BitVec 32 := 4#32
  let c0_i32_404 : BitVec 32 := 0#32
  let v424 : BitVec 1 := Scalar.cmpi .eq c4_i32_403 c0_i32_404
  let c1_i32_405 : BitVec 32 := 1#32
  let v425 : BitVec 32 := Scalar.select v424 c1_i32_405 c4_i32_403
  let v426 : BitVec 32 := Scalar.remsi v423 v425
  let c0_i32_407 : BitVec 32 := 0#32
  let v428 : BitVec 1 := Scalar.cmpi .slt v426 c0_i32_407
  let c0_i32_408 : BitVec 32 := 0#32
  let v429 : BitVec 1 := Scalar.cmpi .slt v425 c0_i32_408
  let v430 : BitVec 1 := Scalar.xori v428 v429
  let c0_i32_406 : BitVec 32 := 0#32
  let v427 : BitVec 1 := Scalar.cmpi .ne v426 c0_i32_406
  let v431 : BitVec 1 := Scalar.andi v430 v427
  let v432 : BitVec 32 := Scalar.addi v426 v425
  let v433 : BitVec 32 := Scalar.select v431 v432 v426
  let c512_i32_442 : BitVec 32 := 512#32
  let v476 : BitVec 32 := Scalar.muli v433 c512_i32_442
  let v477 : Index := Scalar.indexCast v476
  let c1024 : Index := 1024#32
  ![v477.toNat, 1024]
def k0_dev11 (d0 : Dev nD) : Nat :=
  let c0_i32_485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_484 : BitVec 32 := 1#32
  let v518 : BitVec 32 := Scalar.muli v25 c1_i32_484
  let v519 : BitVec 32 := Scalar.addi c0_i32_485 v518
  v519.toNat
def k0_dev12 (d0 : Dev nD) : Nat :=
  let c0_i32_537 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_536 : BitVec 32 := 1#32
  let v577 : BitVec 32 := Scalar.muli v14 c1_i32_536
  let v578 : BitVec 32 := Scalar.addi c0_i32_537 v577
  v578.toNat
def k0_dev13 (d0 : Dev nD) : Nat :=
  let c0_i32_587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_586 : BitVec 32 := 1#32
  let v636 : BitVec 32 := Scalar.muli v25 c1_i32_586
  let v637 : BitVec 32 := Scalar.addi c0_i32_587 v636
  v637.toNat
def k0_dev14 (d0 : Dev nD) : Nat :=
  let c0_i32_639 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_638 : BitVec 32 := 1#32
  let v695 : BitVec 32 := Scalar.muli v14 c1_i32_638
  let v696 : BitVec 32 := Scalar.addi c0_i32_639 v695
  v696.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Ring.lean ====
/-
# The two rings, the pieces of the buffers and the semaphores

Four devices form two rings: ring 0 sends to the device after, ring 1 to the device before. The accumulator is cut
into pieces (ring, block of 512 rows), the landing buffer into pieces (ring, hop), the result into pieces (block of
512 rows, half of the columns). This module names the neighbours, the pieces and the semaphores, and gives the closed
forms of the places the kernel computes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.AllReduce

open Cert.KernelIdeal Cert.KernelIdeal.Gen
open Idealize.ShloMosaic
open Idealize.ShloMosaic.TcCoe

/-! ## The neighbours -/

/-- The device ring `r` sends to: one after in ring 0, one before in ring 1. -/
def fwd (r : Fin 2) (c : Dev nD) : Dev nD := ⟨(c.val + (1 + 2 * r.val)) % 4, Nat.mod_lt _ (by decide)⟩

/-- The device `k` hops against ring `r`: whose row block passes `c` after `k` hops. -/
def back (r : Fin 2) (k : ℕ) (c : Dev nD) : Dev nD := ⟨(c.val + k * (3 - 2 * r.val)) % 4, Nat.mod_lt _ (by decide)⟩

/-- The device ring `r` receives from. -/
abbrev bwd (r : Fin 2) (c : Dev nD) : Dev nD := back r 1 c

theorem fwd_bwd (r : Fin 2) (c : Dev nD) : fwd r (bwd r c) = c := by revert r c; decide
theorem bwd_fwd (r : Fin 2) (c : Dev nD) : bwd r (fwd r c) = c := by revert r c; decide
theorem back_zero (r : Fin 2) (c : Dev nD) : back r 0 c = c := by revert r c; decide
theorem back_bwd (r : Fin 2) (k : ℕ) (c : Dev nD) : back r k (bwd r c) = back r (k + 1) c := by
  refine Fin.ext ?_
  show ((c.val + 1 * (3 - 2 * r.val)) % 4 + k * (3 - 2 * r.val)) % 4 = (c.val + (k + 1) * (3 - 2 * r.val)) % 4
  rw [Nat.mod_add_mod, Nat.add_assoc, ← Nat.add_mul, Nat.add_comm 1 k]
theorem bwd_back (r : Fin 2) (k : ℕ) (c : Dev nD) : bwd r (back r k c) = back r (k + 1) c := by
  refine Fin.ext ?_
  show ((c.val + k * (3 - 2 * r.val)) % 4 + 1 * (3 - 2 * r.val)) % 4 = (c.val + (k + 1) * (3 - 2 * r.val)) % 4
  rw [Nat.mod_add_mod, Nat.add_assoc, ← Nat.add_mul]
theorem back_fwd (r : Fin 2) (k : ℕ) (c : Dev nD) : back r (k + 1) (fwd r c) = back r k c := by
  rw [← back_bwd, bwd_fwd]
theorem back_three (r : Fin 2) (c : Dev nD) : back r 3 c = fwd r c := by revert r c; decide
theorem back_four (r : Fin 2) (k : ℕ) (c : Dev nD) : back r (k + 4) c = back r k c := by
  refine Fin.ext ?_
  show (c.val + (k + 4) * (3 - 2 * r.val)) % 4 = (c.val + k * (3 - 2 * r.val)) % 4
  rw [Nat.add_mul, ← Nat.add_assoc, Nat.add_mul_mod_self_left]

/-- One step along ring `r`, as a permutation of the devices. -/
def along (r : Fin 2) : Dev nD ≃ Dev nD := ⟨fwd r, bwd r, bwd_fwd r, fwd_bwd r⟩

/-- The four row blocks in the order in which they pass device `c` on ring `r`. -/
def order (r : Fin 2) (c : Dev nD) : Fin 4 ≃ Dev nD where
  toFun k := back r k.val c
  invFun i := ⟨((3 - 2 * r.val) * (i.val + 4 - c.val)) % 4, Nat.mod_lt _ (by decide)⟩
  left_inv k := by revert r c k; decide
  right_inv i := by revert r c i; decide

/-! ## The pieces -/

abbrev accM : Memref sig .tc .vmem S2x2048x1024 .bf16 := Memref.whole cc0_scratch0
abbrev recvM : Memref sig .tc .vmem S2x3x512x1024 .bf16 := Memref.whole cc0_scratch1
abbrev outM : Memref sig .tc .vmem S2048x2048 .f32 := Memref.whole cc0_stg2_0
abbrev xM : Memref sig .tc .vmem S2048x512 .bf16 := Memref.whole cc0_stg0_0
abbrev wM : Memref sig .tc .vmem S512x2048 .bf16 := Memref.whole cc0_stg1_0

/-- Where row block `i` of half `r` begins in the accumulator. -/
abbrev accOff (r : Fin 2) (i : Dev nD) : Fin 3 → ℕ := ![r.val, 512 * i.val, 0]
/-- Where landing slot `k` of ring `r` begins. -/
abbrev recvOff (r : Fin 2) (k : Fin 3) : Fin 4 → ℕ := ![r.val, k.val, 0, 0]
/-- Where row block `i`, column half `r` begins in the result. -/
abbrev outOff (r : Fin 2) (i : Dev nD) : Fin 2 → ℕ := ![512 * i.val, 1024 * r.val]

theorem accOff_inb (r : Fin 2) (i : Dev nD) : ∀ a, accOff r i a + S1x512x1024.size a ≤ S2x2048x1024.size a := by revert r i; decide
theorem recvOff_inb (r : Fin 2) (k : Fin 3) : ∀ a, recvOff r k a + S1x1x512x1024.size a ≤ S2x3x512x1024.size a := by revert r k; decide
theorem outOff_inb (r : Fin 2) (i : Dev nD) : ∀ a, outOff r i a + S512x1024.size a ≤ S2048x2048.size a := by revert r i; decide

abbrev accR (r : Fin 2) (i : Dev nD) : Rect S2x2048x1024 := Rect.unit (s := S2x2048x1024) (accOff r i) S1x512x1024.size (accOff_inb r i)
abbrev recvR (r : Fin 2) (k : Fin 3) : Rect S2x3x512x1024 := Rect.unit (s := S2x3x512x1024) (recvOff r k) S1x1x512x1024.size (recvOff_inb r k)
abbrev outR (r : Fin 2) (i : Dev nD) : Rect S2048x2048 := Rect.unit (s := S2048x2048) (outOff r i) S512x1024.size (outOff_inb r i)

/-- Row block `i` of half `r` of the accumulator, as a 512 × 1024 array. -/
abbrev accB (r : Fin 2) (i : Dev nD) : Memref sig .tc .vmem S512x1024 .bf16 :=
  (accM.slice (accR r i) (fun _ => rfl)).squeeze S512x1024 squeezes_S1x512x1024_S512x1024
/-- Landing slot `k` of ring `r`. -/
abbrev recvB (r : Fin 2) (k : Fin 3) : Memref sig .tc .vmem S512x1024 .bf16 :=
  (recvM.slice (recvR r k) (fun _ => rfl)).squeeze S512x1024 squeezes_S1x1x512x1024_S512x1024
/-- Row block `i`, column half `r` of the result. -/
abbrev outB (r : Fin 2) (i : Dev nD) : Memref sig .tc .vmem S512x1024 .f32 := outM.slice (outR r i) (fun _ => rfl)

/-! ## The semaphores -/

/-- The barrier semaphore, the send semaphores, the receive semaphores. -/
abbrev barS : Sem sig := (SemArray.scalar (sig.barrier 0 rfl) : Sems sig S_).sem
abbrev sendS (r : Fin 2) (h : Fin 6) : DmaSem sig := ⟨3 + 6 * r.val + h.val, by revert r h; decide⟩
abbrev recvS (r : Fin 2) (h : Fin 6) : DmaSem sig := ⟨15 + 6 * r.val + h.val, by revert r h; decide⟩

/-- One entry of an array of consecutive semaphores, two rows of six from `base`. -/
theorem sem_entry (base : ℕ) (hb : base + S2x6.numel ≤ 27) (r : Fin 2) (h : Fin 6)
    (hi : ∀ a, (![r.val, h.val] : Fin 2 → ℕ) a + S1x1.size a ≤ S2x6.size a) :
    ((((SemArray.consecutive base S2x6 hb).slice (Rect.unit (s := S2x6) ![r.val, h.val] S1x1.size hi)).squeeze S_ squeezes_S1x1_S_).sem).val
      = base + 6 * r.val + h.val := by
  set j : S1x1.Idx := Shape.reshapeEquiv squeezes_S1x1_S_.numel_eq (fun i : Fin 0 => i.elim0) with hj
  show base + (S2x6.rowMajor ((Rect.unit (s := S2x6) ![r.val, h.val] S1x1.size hi).emb j)).val = _
  rw [Shape.rowMajor_val_two]
  have h0 : ((Rect.unit (s := S2x6) ![r.val, h.val] S1x1.size hi).emb j 0).val = r.val := by
    have hz : (j 0).val < 1 := (j 0).isLt
    show r.val + 1 * (j 0).val = _; omega
  have h1 : ((Rect.unit (s := S2x6) ![r.val, h.val] S1x1.size hi).emb j 1).val = h.val := by
    have hz : (j 1).val < 1 := (j 1).isLt
    show h.val + 1 * (j 1).val = _; omega
  rw [h0, h1]
  show base + (r.val * 6 + h.val) = _; omega

/-- The entries of the two semaphore arrays, as the kernel takes them out. -/
theorem sem_send (r : Fin 2) (h : Fin 6) (hi : ∀ a, (![r.val, h.val] : Fin 2 → ℕ) a + S1x1.size a ≤ S2x6.size a) :
    ((cc0_scratch2.slice (Rect.unit (s := S2x6) ![r.val, h.val] S1x1.size hi)).squeeze S_ squeezes_S1x1_S_).sem = sendS r h :=
  Fin.ext (sem_entry 3 _ r h hi)
theorem sem_recv (r : Fin 2) (h : Fin 6) (hi : ∀ a, (![r.val, h.val] : Fin 2 → ℕ) a + S1x1.size a ≤ S2x6.size a) :
    ((cc0_scratch3.slice (Rect.unit (s := S2x6) ![r.val, h.val] S1x1.size hi)).squeeze S_ squeezes_S1x1_S_).sem = recvS r h :=
  Fin.ext (sem_entry 15 _ r h hi)

/-! ## The places the kernel computes -/

theorem dev1_eq (c : Dev nD) : (⟨k0_dev1 c, k0_dev1_lt c⟩ : Dev nD) = fwd 1 c := by revert c; decide +kernel
theorem dev2_eq (c : Dev nD) : (⟨k0_dev2 c, k0_dev2_lt c⟩ : Dev nD) = fwd 0 c := by revert c; decide +kernel
theorem dev3_eq (c : Dev nD) : (⟨k0_dev3 c, k0_dev3_lt c⟩ : Dev nD) = fwd 0 c := by revert c; decide +kernel
theorem dev4_eq (c : Dev nD) : (⟨k0_dev4 c, k0_dev4_lt c⟩ : Dev nD) = fwd 1 c := by revert c; decide +kernel
theorem dev5_eq (c : Dev nD) : (⟨k0_dev5 c, k0_dev5_lt c⟩ : Dev nD) = fwd 0 c := by revert c; decide +kernel
theorem dev6_eq (c : Dev nD) : (⟨k0_dev6 c, k0_dev6_lt c⟩ : Dev nD) = fwd 1 c := by revert c; decide +kernel
theorem dev7_eq (c : Dev nD) : (⟨k0_dev7 c, k0_dev7_lt c⟩ : Dev nD) = fwd 0 c := by revert c; decide +kernel
theorem dev8_eq (c : Dev nD) : (⟨k0_dev8 c, k0_dev8_lt c⟩ : Dev nD) = fwd 1 c := by revert c; decide +kernel
theorem dev9_eq (c : Dev nD) : (⟨k0_dev9 c, k0_dev9_lt c⟩ : Dev nD) = fwd 0 c := by revert c; decide +kernel
theorem dev10_eq (c : Dev nD) : (⟨k0_dev10 c, k0_dev10_lt c⟩ : Dev nD) = fwd 1 c := by revert c; decide +kernel
theorem dev11_eq (c : Dev nD) : (⟨k0_dev11 c, k0_dev11_lt c⟩ : Dev nD) = fwd 0 c := by revert c; decide +kernel
theorem dev12_eq (c : Dev nD) : (⟨k0_dev12 c, k0_dev12_lt c⟩ : Dev nD) = fwd 1 c := by revert c; decide +kernel
theorem dev13_eq (c : Dev nD) : (⟨k0_dev13 c, k0_dev13_lt c⟩ : Dev nD) = fwd 0 c := by revert c; decide +kernel
theorem dev14_eq (c : Dev nD) : (⟨k0_dev14 c, k0_dev14_lt c⟩ : Dev nD) = fwd 1 c := by revert c; decide +kernel

/-- Hop `h` of ring 0 sends row block `back 0 h c`, -/
theorem off1_eq (c : Dev nD) (h : Fin 6) : k0_off1 c (BitVec.ofInt 32 (-h.val)) = accOff 0 (back 0 h.val c) := by revert c h; decide +kernel
/-- of ring 1 row block `back 1 h c`. -/
theorem off2_eq (c : Dev nD) (h : Fin 6) : k0_off2 c (BitVec.ofNat 32 h.val) = accOff 1 (back 1 h.val c) := by revert c h; decide +kernel
/-- It receives row block `back 0 (h + 1) c` on ring 0, -/
theorem off3_eq (c : Dev nD) (h : Fin 6) : k0_off3 c (BitVec.ofInt 32 (-(h.val + 1))) = accOff 0 (back 0 (h.val + 1) c) := by revert c h; decide +kernel
/-- `back 1 (h + 1) c` on ring 1; -/
theorem off4_eq (c : Dev nD) (h : Fin 6) : k0_off4 c (BitVec.ofNat 32 (h.val + 1)) = accOff 1 (back 1 (h.val + 1) c) := by revert c h; decide +kernel
/-- and stores the same block of the result. -/
theorem off5_eq (c : Dev nD) (h : Fin 6) : k0_off5 c (BitVec.ofInt 32 (-(h.val + 1))) = outOff 0 (back 0 (h.val + 1) c) := by revert c h; decide +kernel
theorem off6_eq (c : Dev nD) (h : Fin 6) : k0_off6 c (BitVec.ofNat 32 (h.val + 1)) = outOff 1 (back 1 (h.val + 1) c) := by revert c h; decide +kernel

end Cert.AllReduce

end
-- ==== Proof.Pieces.lean ====
/-
# Owning a piece of a buffer: loads, stores, copies

The accumulator and the landing buffer are held piece by piece, each piece a slice of the buffer viewed at
512 × 1024. The kernel loads and stores through a rectangle of the whole buffer, copies from piece to piece. This
module states what each of these does to a piece owned at known contents.
-/
module

public import proofs.«01_k».proof.Proof.Ring
public import Idealize.ShloMosaic.Lib.MemrefSat
public import Idealize.ShloMosaic.Lib.Rounds

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the rings' (duties named by the ring) -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## A squeezed memref -/

/-- Owning a memref with its unit axes dropped is owning the memref, at the same elements. -/
theorem owns_squeeze (c : Thread nD τ) {sp : Space} {sh s' : Shape} {e : EltTy} (m : Memref sig c.2.kind sp sh e)
    (h : sh.Squeezes s') (q : PosShare TreeShare) (X : sh.Idx → Elt F e) :
    (owns c (m.squeeze s' h) q (shapeCast s' X h.numel_eq) : sProp 𝕄) = owns c m q X := by
  have hs : (m.squeeze s' h).view.set = m.view.set := View.set_reshape (v := m.view) h.numel_eq
  have hr : ∀ f : m.view.ty.Contents (Elt F), ((m.squeeze s' h).view.read (Elt F) f = shapeCast s' X h.numel_eq) = (m.view.read (Elt F) f = X) := by
    intro f
    refine propext ⟨fun hf => ?_, fun hf => ?_⟩
    · have h2 : shapeCast s' (m.view.read (Elt F) f) h.numel_eq = shapeCast s' X h.numel_eq := hf
      have := congrArg (fun v => shapeCast sh v h.numel_eq.symm) h2
      simpa only [shapeCast_shapeCast] using this
    · exact congrArg (fun v => shapeCast s' v h.numel_eq) hf
  have key : ∀ f : m.view.ty.Contents (Elt F),
      (iprop(⌜(m.squeeze s' h).view.read (Elt F) f = shapeCast s' X h.numel_eq⌝ ∗ ((m.squeeze s' h).view.loc c ↦[(m.squeeze s' h).view.set]{q} f)) : sProp 𝕄)
        = iprop(⌜m.view.read (Elt F) f = X⌝ ∗ (m.view.loc c ↦[m.view.set]{q} f)) := fun f => by
    rw [hr f, hs]
  unfold owns
  exact congrArg _ (funext key)

/-! ## Loads and stores through a rectangle of the buffer -/

section Access
variable (c : Thread nD τ) {cs : CoreSpace} {sh s' : Shape} {e : EltTy} (m : Memref sig c.2.kind cs sh e)

/-- A load through the rectangle of an owned slice reads its contents. -/
theorem wp_load_slice {α : Type} {Q : α → sProp 𝕄} {r : Rect sh} {hr : ∀ a, r.stride a = 1} {hl : m.view.LoadsAt r.toLoadRect} {q : PosShare TreeShare}
    {X : r.shape.Idx → Elt F e} {k : (r.shape.Idx → Elt F e) → Prog (TpuEff nD τ sig (Elt F) Λ₀ c.2) α} :
    (owns c (m.slice r hr) q X : sProp 𝕄)
      ⊢ iprop((owns c (m.slice r hr) q X -∗ wp frame (wpE (defs₀ (F := F)) 𝒱₀ c none) Set.univ (k X) Q)
        -∗ wp frame (wpE (defs₀ (F := F)) 𝒱₀ c none) Set.univ (.op (.load m r.toLoadRect hl) k) Q) := by
  unfold owns
  iintro ⟨%f, %hf, H⟩ Hk
  iapply (wp_load_rect 𝒱₀ c none Set.univ (m := m) (r := r) (S := (m.slice r hr).view.set) (Finset.Subset.refl _)) $$ H
  iintro H
  rw [show (m.access r).read (Elt F) f = X from hf]
  iapply Hk
  iexists f; isplitr; · ipureintro; exact hf
  iexact H

/-- A store through the rectangle of an owned slice leaves the slice at what was stored. -/
theorem wp_store_slice {α : Type} {Q : α → sProp 𝕄} {r : Rect sh} {hr : ∀ a, r.stride a = 1} {w : r.shape.Idx → Elt F e} {hx : (m.access r).Stores Finset.univ}
    {hm : Finset.univ = Finset.univ ∨ ∀ a, r.stride a = 1} {k : PUnit → Prog (TpuEff nD τ sig (Elt F) Λ₀ c.2) α} {X : r.shape.Idx → Elt F e} :
    (owns c (m.slice r hr) fullShare X : sProp 𝕄)
      ⊢ iprop((owns c (m.slice r hr) fullShare w -∗ wp frame (wpE (defs₀ (F := F)) 𝒱₀ c none) Set.univ (k ⟨⟩) Q)
        -∗ wp frame (wpE (defs₀ (F := F)) 𝒱₀ c none) Set.univ (.op (.store m r w Finset.univ hx hm) k) Q) := by
  unfold owns
  iintro ⟨%f, %hf, H⟩ Hk
  iapply (wp_store 𝒱₀ c none Set.univ (m := m) (r := r) (S := (m.slice r hr).view.set) (by rw [View.setOn_univ])) $$ H
  iintro H
  iapply Hk
  iexists _; isplitr
  rotate_left
  · iexact H
  · ipureintro; exact View.read_write_univ _ _

/-- The same of a squeezed slice: the load reads the piece's contents with the unit axes put back, -/
theorem wp_load_piece {α : Type} {Q : α → sProp 𝕄} {r : Rect sh} {hr : ∀ a, r.stride a = 1} {h : r.shape.Squeezes s'} {hl : m.view.LoadsAt r.toLoadRect} {q : PosShare TreeShare}
    {X : s'.Idx → Elt F e} {k : (r.shape.Idx → Elt F e) → Prog (TpuEff nD τ sig (Elt F) Λ₀ c.2) α} :
    (owns c ((m.slice r hr).squeeze s' h) q X : sProp 𝕄)
      ⊢ iprop((owns c ((m.slice r hr).squeeze s' h) q X -∗ wp frame (wpE (defs₀ (F := F)) 𝒱₀ c none) Set.univ (k (shapeCast r.shape X h.numel_eq.symm)) Q)
        -∗ wp frame (wpE (defs₀ (F := F)) 𝒱₀ c none) Set.univ (.op (.load m r.toLoadRect hl) k) Q) := by
  have hX : X = shapeCast s' (shapeCast r.shape X h.numel_eq.symm) h.numel_eq := (shapeCast_shapeCast _ _ _).symm
  have ho := owns_squeeze (F := F) c (m.slice r hr) h q (shapeCast r.shape X h.numel_eq.symm)
  rw [← hX] at ho
  rw [ho]
  exact wp_load_slice c m

/-- and a store leaves the piece at what was stored, its unit axes dropped. -/
theorem wp_store_piece {α : Type} {Q : α → sProp 𝕄} {r : Rect sh} {hr : ∀ a, r.stride a = 1} {h : r.shape.Squeezes s'} {w : r.shape.Idx → Elt F e} {hx : (m.access r).Stores Finset.univ}
    {hm : Finset.univ = Finset.univ ∨ ∀ a, r.stride a = 1} {k : PUnit → Prog (TpuEff nD τ sig (Elt F) Λ₀ c.2) α} {X : s'.Idx → Elt F e} :
    (owns c ((m.slice r hr).squeeze s' h) fullShare X : sProp 𝕄)
      ⊢ iprop((owns c ((m.slice r hr).squeeze s' h) fullShare (shapeCast s' w h.numel_eq) -∗ wp frame (wpE (defs₀ (F := F)) 𝒱₀ c none) Set.univ (k ⟨⟩) Q)
        -∗ wp frame (wpE (defs₀ (F := F)) 𝒱₀ c none) Set.univ (.op (.store m r w Finset.univ hx hm) k) Q) := by
  have hX : X = shapeCast s' (shapeCast r.shape X h.numel_eq.symm) h.numel_eq := (shapeCast_shapeCast _ _ _).symm
  have ho := owns_squeeze (F := F) c (m.slice r hr) h fullShare (shapeCast r.shape X h.numel_eq.symm)
  rw [← hX] at ho
  rw [ho, owns_squeeze]
  exact wp_store_slice c m

end Access

/-! ## Copies from piece to piece of two devices -/

section Copy

/-- A copy that keeps nothing back: the source piece comes with the landing, beside `G`. -/
theorem wp_send_all {α : Type} {Q : α → sProp 𝕄} (Rd : Schedule (GSem nD τ sig) (Fin 2) 𝕄) (c c' : Thread nD τ) {s : Shape} {e : EltTy} {sp sp' : Space} {src : Memref sig c.2.kind sp s e} {dst : Memref sig c'.2.kind sp' s e}
    {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig (Elt F) Λ₀ c.2) α} {X : s.Idx → Elt F e} {G : sProp 𝕄} {κ₁ κ₂ : ℕ} {d₁ d₂ : Fin 2}
    (hd₁ : d₁ ∈ Rd.duties (c, sS) 0) (hd₂ : d₂ ∈ Rd.duties (c', sem) 0) (N : ℕ) (hN : dst.view.amount sem = N)
    (hk₁ : Rd.amount (c, sS) 0 d₁ = N) (hk₂ : Rd.amount (c', sem) 0 d₂ = N)
    {O₀ : CellTallies nD τ sig Unit} (O : CellTallies nD τ sig Unit) (hO : O₀ = O + tallyAt (c', sem) () N) {W : Waits sig Unit}
    (hpay₁ : (emp : sProp 𝕄) ⊢ Rd.payload (c, sS) 0 d₁)
    (hpay₂ : iprop((owns c' dst fullShare X ∗ G) ∗ owns c src fullShare X) ⊢ Rd.payload (c', sem) 0 d₂)
    (hr : τ.routes c c' = true) :
    iprop(cellInv ER Rd κ₁ (c, sS) ∗ cellInv ER Rd κ₂ (c', sem) ∗ owns c src fullShare X ∗ (∃ Y, owns c' dst fullShare Y) ∗ G
        ∗ owes c O₀ W ∗ dutyTok ER (c, sS) 0 d₁ ∗ reached ER (c, sS) 0 ∗ dutyTok ER (c', sem) 0 d₂ ∗ reached ER (c', sem) 0)
      ⊢ iprop(((cred (tallyAt (c, sS) () N) ∗ owes c O W) -∗ wp frame (wpE (defs₀ (F := F)) 𝒱₀ c none) Set.univ (k ⟨⟩) Q)
          -∗ wp frame (wpE (defs₀ (F := F)) 𝒱₀ c none) Set.univ (.op (.enqueueDma src (.remote c' dst sS hsc) sem hsrc hdst hsem) k) Q) := by
  unfold owns
  iintro ⟨H1, H2, ⟨%fs, %hfs, Hs⟩, ⟨%Y, %fd, %hfd, Hd⟩, HG, HO, Ht1, Hr1, Ht2, Hr2⟩
  iapply (Rounds.wp_send_landing_pointsTo_with 𝒱₀ ER Rd c none (κ₁ := κ₁) (κ₂ := κ₂) (r₁ := 0) (r₂ := 0) (d₁ := d₁) (d₂ := d₂) (fs := fs) (fd := fd)
    (F := G) (q := fullShare) hd₁ hd₂ () () N hN hk₁ hk₂ O hO (W := W) hpay₁ (by
      refine BIBase.Entails.trans ?_ hpay₂
      unfold owns
      iintro ⟨⟨Hd, HG⟩, Hs⟩
      isplitl [Hd HG]
      · isplitl [Hd]
        · iexists _; isplitr
          rotate_left
          · iexact Hd
          · ipureintro; rw [View.read_write_univ]; exact hfs
        · iexact HG
      · iexists fs; isplitr; · ipureintro; exact hfs
        iexact Hs) hr) $$ [H1 H2 Hs Hd HG HO Ht1 Hr1 Ht2 Hr2]
  isplitl [H1]; · iexact H1
  isplitl [H2]; · iexact H2
  isplitl [Hs]; · iexact Hs
  isplitl [Hd HG]
  · isplitl [Hd]; · iexact Hd
    iexact HG
  isplitl [HO]; · iexact HO
  isplitl [Ht1]; · iexact Ht1
  isplitl [Hr1]; · iexact Hr1
  isplitl [Ht2]; · iexact Ht2
  iexact Hr2

/-- A copy that lends a share of its source: the share comes back on the send cell, the landing goes beside `G`. -/
theorem wp_send_lend {α : Type} {Q : α → sProp 𝕄} (Rd : Schedule (GSem nD τ sig) (Fin 2) 𝕄) (c c' : Thread nD τ) {s : Shape} {e : EltTy} {sp sp' : Space} {src : Memref sig c.2.kind sp s e} {dst : Memref sig c'.2.kind sp' s e}
    {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig (Elt F) Λ₀ c.2) α} {q : PosShare TreeShare} {X : s.Idx → Elt F e} {G : sProp 𝕄} {κ₁ κ₂ : ℕ} {d₁ d₂ : Fin 2}
    (hd₁ : d₁ ∈ Rd.duties (c, sS) 0) (hd₂ : d₂ ∈ Rd.duties (c', sem) 0) (N : ℕ) (hN : dst.view.amount sem = N)
    (hk₁ : Rd.amount (c, sS) 0 d₁ = N) (hk₂ : Rd.amount (c', sem) 0 d₂ = N)
    {O₀ : CellTallies nD τ sig Unit} (O : CellTallies nD τ sig Unit) (hO : O₀ = O + tallyAt (c', sem) () N) {W : Waits sig Unit}
    (hpay₁ : (owns c src q X : sProp 𝕄) ⊢ Rd.payload (c, sS) 0 d₁)
    (hpay₂ : iprop(owns c' dst fullShare X ∗ G) ⊢ Rd.payload (c', sem) 0 d₂)
    (hr : τ.routes c c' = true) :
    iprop(cellInv ER Rd κ₁ (c, sS) ∗ cellInv ER Rd κ₂ (c', sem) ∗ owns c src q X ∗ (∃ Y, owns c' dst fullShare Y) ∗ G
        ∗ owes c O₀ W ∗ dutyTok ER (c, sS) 0 d₁ ∗ reached ER (c, sS) 0 ∗ dutyTok ER (c', sem) 0 d₂ ∗ reached ER (c', sem) 0)
      ⊢ iprop(((cred (tallyAt (c, sS) () N) ∗ owes c O W) -∗ wp frame (wpE (defs₀ (F := F)) 𝒱₀ c none) Set.univ (k ⟨⟩) Q)
          -∗ wp frame (wpE (defs₀ (F := F)) 𝒱₀ c none) Set.univ (.op (.enqueueDma src (.remote c' dst sS hsc) sem hsrc hdst hsem) k) Q) := by
  unfold owns
  iintro ⟨H1, H2, ⟨%fs, %hfs, Hs⟩, ⟨%Y, %fd, %hfd, Hd⟩, HG, HO, Ht1, Hr1, Ht2, Hr2⟩
  iapply (Rounds.wp_send_pointsTo_with 𝒱₀ ER Rd c none (κ₁ := κ₁) (κ₂ := κ₂) (r₁ := 0) (r₂ := 0) (d₁ := d₁) (d₂ := d₂) (fs := fs) (fd := fd)
    (F := G) (q := q) hd₁ hd₂ () () N hN hk₁ hk₂ O hO (W := W) (by
      refine BIBase.Entails.trans ?_ hpay₁
      unfold owns
      iintro Hs
      iexists fs; isplitr; · ipureintro; exact hfs
      iexact Hs) (by
      refine BIBase.Entails.trans ?_ hpay₂
      unfold owns
      iintro ⟨Hd, HG⟩
      isplitl [Hd]
      · iexists _; isplitr
        rotate_left
        · iexact Hd
        · ipureintro; rw [View.read_write_univ]; exact hfs
      · iexact HG) hr) $$ [H1 H2 Hs Hd HG HO Ht1 Hr1 Ht2 Hr2]
  isplitl [H1]; · iexact H1
  isplitl [H2]; · iexact H2
  isplitl [Hs]; · iexact Hs
  isplitl [Hd HG]
  · isplitl [Hd]; · iexact Hd
    iexact HG
  isplitl [HO]; · iexact HO
  isplitl [Ht1]; · iexact Ht1
  isplitl [Hr1]; · iexact Hr1
  isplitl [Ht2]; · iexact Ht2
  iexact Hr2

end Copy

end Cert.AllReduce
-- ==== Proof.Schedule.lean ====
/-
# The protocol of the two rings

`P r c i` is row block `i` of device `c`'s own product, column half `r`. Ring `r` runs six hops; at hop `h` device
`c` copies row block `back r h c` to `fwd r c`.

* Hops 0, 1, 2 reduce: the block holds `partialSum P r h c`, the products of the `h + 1` devices it has passed, and
  lands in the peer's landing slot `h`, whose hop adds its own product to it. After hop 2 the block is complete.
* Hops 3, 4, 5 gather: the complete block lands in its own place in the peer's accumulator.

Who waits, who pays, and what is handed over:

* the barrier semaphore of `c`: one round of two duties, one unit each. Duty `r` is paid by `fwd r c`, the device `c`
  sends to on ring `r`, and hands over that device's three landing slots of ring `r`;
* the receive semaphore of hop `h`, ring `r`, of `c`: one duty of one block's credit, paid by the copy of `bwd r c`.
  It hands over the landed block. A copy of hop 0, 1, 2 hands over its source too, and the sources that the sender
  received before: a device owns in the end the very pieces of its predecessor's accumulator that hops 3, 4, 5 write.
  A copy of hop 3, 4, 5 writes the oldest of them, and passes on the others;
* the send semaphore of hop `h`, ring `r`, of `c`: one duty of one block's credit, paid by `c`'s own copy. At hops 3, 4,
  5 it hands back the half share of the source that the copy read; before, nothing.

Every wait is below what the waiter still owes: the barrier at level 1, the two semaphores of hop `h` at level `2 + h`,
and the copies not yet started belong to later hops.
-/
module

public import proofs.«01_k».proof.Proof.Pieces

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells -/

abbrev barCell (c : Dev nD) : GSem nD τ sig := ((c : Thread nD τ), .reg barS)
abbrev sendCell (r : Fin 2) (h : Fin 6) (c : Dev nD) : GSem nD τ sig := ((c : Thread nD τ), .dma (sendS r h))
abbrev recvCell (r : Fin 2) (h : Fin 6) (c : Dev nD) : GSem nD τ sig := ((c : Thread nD τ), .dma (recvS r h))

/-- A device's cells: its barrier, its send (`false`) and receive (`true`) cells by ring and hop. -/
abbrev Ci : Type := Option (Bool × Fin 2 × Fin 6)
abbrev csem : Ci → SemLoc sig
  | none => .reg barS
  | some (false, r, h) => .dma (sendS r h)
  | some (true, r, h) => .dma (recvS r h)
abbrev kcell (ck : Dev nD × Ci) : GSem nD τ sig := ((ck.1 : Thread nD τ), csem ck.2)

/-- The credit of one block. -/
abbrev N : ℕ := (accB 0 0).view.dmaCredit
theorem N_pos : 0 < N := View.dmaCredit_pos _ (by decide)
theorem credit_acc (r : Fin 2) (i : Dev nD) : (accB r i).view.dmaCredit = N := rfl
theorem credit_recv (r : Fin 2) (k : Fin 3) : (recvB r k).view.dmaCredit = N := rfl

/-! ## Contents -/

/-- A block of half-rows. -/
abbrev Blk (F : FTy → Type) : Type := Vec F S512x1024 .bf16

section Contents
variable (P : Fin 2 → Dev nD → Dev nD → Blk F)

/-- What device `c` sends at hop `k` of the reduction: its own product of row block `back r k c` added to what came in. -/
def partialSum (r : Fin 2) : ℕ → Dev nD → Blk F
  | 0, c => P r c c
  | k + 1, c => (addf (P r c (back r (k + 1) c)) (partialSum r k (bwd r c) : FVec F S512x1024 .bf16) : FVec F S512x1024 .bf16)

/-- Row block `i` of the sum over all devices. -/
def total (r : Fin 2) (i : Dev nD) : Blk F := partialSum P r 3 (bwd r i)

theorem total_back_three (r : Fin 2) (c : Dev nD) : total P r (back r 3 c) = partialSum P r 3 c := by
  unfold total; rw [bwd_back, show back r (3 + 1) c = c from (back_four r 0 c).trans (back_zero r c)]

/-! ## Payloads -/

/-- The source of hop `k`'s copy, as the copy leaves it. -/
def src (r : Fin 2) (k : ℕ) (s : Dev nD) : sProp 𝕄 := owns (s : Thread nD τ) (accB r (back r k s)) fullShare (partialSum P r k s)

/-- The sources received before that hop `k`'s copy passes on. -/
def carry (r : Fin 2) : ℕ → Dev nD → sProp 𝕄
  | 1, s => src P r 0 (back r 1 s)
  | 2, s => iprop(src P r 1 (back r 1 s) ∗ src P r 0 (back r 2 s))
  | 3, s => iprop(src P r 2 (back r 1 s) ∗ src P r 1 (back r 2 s))
  | 4, s => src P r 2 (back r 2 s)
  | _, _ => iprop(emp)

/-- What the copy of hop `h` by device `s` hands to the peer. -/
def recvPay (r : Fin 2) (h : ℕ) (s : Dev nD) : sProp 𝕄 :=
  if h3 : h < 3 then
    iprop((owns (fwd r s : Thread nD τ) (recvB r ⟨h, h3⟩) fullShare (partialSum P r h s) ∗ carry P r h s) ∗ src P r h s)
  else iprop(owns (fwd r s : Thread nD τ) (accB r (back r h s)) fullShare (total P r (back r h s)) ∗ carry P r h s)

/-- What it hands back to `s`. -/
def sendPay (r : Fin 2) (h : ℕ) (s : Dev nD) : sProp 𝕄 :=
  if h < 3 then iprop(emp) else owns (s : Thread nD τ) (accB r (back r h s)) fullShare.left (total P r (back r h s))

/-- A device's three landing slots of ring `r`, at any contents. -/
def slots (r : Fin 2) (d : Dev nD) : sProp 𝕄 :=
  iprop((∃ Y, owns (d : Thread nD τ) (recvB r 0) fullShare Y) ∗ (∃ Y, owns (d : Thread nD τ) (recvB r 1) fullShare Y) ∗ ∃ Y, owns (d : Thread nD τ) (recvB r 2) fullShare Y)

instance src_storable (r : Fin 2) (k : ℕ) (s : Dev nD) : BI.Storable (upEmb : UEmb _ 𝕄) (src P r k s) := by unfold src; infer_instance
instance carry_storable (r : Fin 2) (k : ℕ) (s : Dev nD) : BI.Storable (upEmb : UEmb _ 𝕄) (carry P r k s) := by
  unfold carry; split <;> infer_instance
instance recvPay_storable (r : Fin 2) (h : ℕ) (s : Dev nD) : BI.Storable (upEmb : UEmb _ 𝕄) (recvPay P r h s) := by
  unfold recvPay; split <;> infer_instance
instance sendPay_storable (r : Fin 2) (h : ℕ) (s : Dev nD) : BI.Storable (upEmb : UEmb _ 𝕄) (sendPay P r h s) := by
  unfold sendPay; split <;> infer_instance
instance slots_storable (r : Fin 2) (d : Dev nD) : BI.Storable (upEmb : UEmb _ 𝕄) (slots (F := F) r d) := by unfold slots; infer_instance

/-! ## The schedule -/

/-- The ring and the hop of a DMA semaphore of the kernel's. -/
def ringOf (q : DmaSem sig) : Fin 2 := ⟨(q.val - 3) / 6 % 2, Nat.mod_lt _ (by decide)⟩
def hopOf (q : DmaSem sig) : Fin 6 := ⟨(q.val - 3) % 6, Nat.mod_lt _ (by decide)⟩
theorem ringOf_send (r : Fin 2) (h : Fin 6) : ringOf (sendS r h) = r := by revert r h; decide
theorem ringOf_recv (r : Fin 2) (h : Fin 6) : ringOf (recvS r h) = r := by revert r h; decide
theorem hopOf_send (r : Fin 2) (h : Fin 6) : hopOf (sendS r h) = h := by revert r h; decide
theorem hopOf_recv (r : Fin 2) (h : Fin 6) : hopOf (recvS r h) = h := by revert r h; decide

def dutiesOf : SemLoc sig → Finset (Fin 2)
  | .reg _ => Finset.univ
  | .dma q => if 3 ≤ q.val then {0} else ∅
def payloadOf (c : Dev nD) (d : Fin 2) : SemLoc sig → sProp 𝕄
  | .reg _ => slots d (fwd d c)
  | .dma q => if q.val < 15 then sendPay P (ringOf q) (hopOf q).val c else recvPay P (ringOf q) (hopOf q).val (bwd (ringOf q) c)
instance payloadOf_storable (c : Dev nD) (d : Fin 2) (s : SemLoc sig) : BI.Storable (upEmb : UEmb _ 𝕄) (payloadOf P c d s) := by
  unfold payloadOf; repeat' split
  all_goals infer_instance
def amountOf : SemLoc sig → ℕ
  | .reg _ => 1
  | .dma _ => N

def ringRd : Rounds.Schedule (GSem nD τ sig) (Fin 2) 𝕄 where
  duties g r := if r = 0 ∧ g.1.2 = .tc then dutiesOf g.2 else ∅
  unitless _ := False
  amount g _ _ := amountOf g.2
  payload g _ d := payloadOf P g.1.1 d g.2
  amount_pos g _ _ _ := by
    show 0 < amountOf g.2
    unfold amountOf
    split
    · exact Nat.one_pos
    · exact N_pos

instance ringRd_payload_storable (g : GSem nD τ sig) (r : ℕ) (d : Fin 2) :
    BI.Storable (upEmb : UEmb _ 𝕄) ((ringRd P).payload g r d) := payloadOf_storable P g.1.1 d g.2

theorem duties_bar (c : Dev nD) : (ringRd P).duties (barCell c) 0 = Finset.univ := by dsimp only [ringRd]; rw [if_pos ⟨rfl, rfl⟩]; rfl
theorem duties_send (r : Fin 2) (h : Fin 6) (c : Dev nD) : (ringRd P).duties (sendCell r h c) 0 = {0} := by
  dsimp only [ringRd]; rw [if_pos ⟨rfl, rfl⟩]; exact if_pos (show 3 ≤ 3 + 6 * r.val + h.val by omega)
theorem duties_recv (r : Fin 2) (h : Fin 6) (c : Dev nD) : (ringRd P).duties (recvCell r h c) 0 = {0} := by
  dsimp only [ringRd]; rw [if_pos ⟨rfl, rfl⟩]; exact if_pos (show 3 ≤ 15 + 6 * r.val + h.val by omega)
theorem duties_later (g : GSem nD τ sig) : ∀ k, 1 ≤ k → (ringRd P).duties g k = ∅ := fun k hk => if_neg (fun h => by omega)
theorem amount_bar (c : Dev nD) (d : Fin 2) : (ringRd P).amount (barCell c) 0 d = 1 := rfl
theorem amount_send (r : Fin 2) (h : Fin 6) (c : Dev nD) (d : Fin 2) : (ringRd P).amount (sendCell r h c) 0 d = N := rfl
theorem amount_recv (r : Fin 2) (h : Fin 6) (c : Dev nD) (d : Fin 2) : (ringRd P).amount (recvCell r h c) 0 d = N := rfl

theorem expect_bar (c : Dev nD) : (ringRd P).expect (barCell c) 0 = 2 := by
  unfold Schedule.expect Schedule.amountOf
  rw [duties_bar, Finset.sum_congr rfl fun d _ => amount_bar P c d, Finset.sum_const, Finset.card_univ, Fintype.card_fin, smul_eq_mul]
theorem expect_send (r : Fin 2) (h : Fin 6) (c : Dev nD) : (ringRd P).expect (sendCell r h c) 0 = N := by
  unfold Schedule.expect Schedule.amountOf; rw [duties_send, Finset.sum_singleton, amount_send]
theorem expect_recv (r : Fin 2) (h : Fin 6) (c : Dev nD) : (ringRd P).expect (recvCell r h c) 0 = N := by
  unfold Schedule.expect Schedule.amountOf; rw [duties_recv, Finset.sum_singleton, amount_recv]

theorem payload_bar (c : Dev nD) (d : Fin 2) : (ringRd P).payload (barCell c) 0 d = slots d (fwd d c) := rfl
theorem payload_send (r : Fin 2) (h : Fin 6) (c : Dev nD) (d : Fin 2) : (ringRd P).payload (sendCell r h c) 0 d = sendPay P r h.val c := by
  show (if (sendS r h).val < 15 then sendPay P (ringOf (sendS r h)) (hopOf (sendS r h)).val c else _) = _
  rw [if_pos (show 3 + 6 * r.val + h.val < 15 by omega), ringOf_send, hopOf_send]
theorem payload_recv (r : Fin 2) (h : Fin 6) (c : Dev nD) (d : Fin 2) : (ringRd P).payload (recvCell r h c) 0 d = recvPay P r h.val (bwd r c) := by
  show (if (recvS r h).val < 15 then _ else recvPay P (ringOf (recvS r h)) (hopOf (recvS r h)).val (bwd (ringOf (recvS r h)) c)) = _
  rw [if_neg (show ¬ 15 + 6 * r.val + h.val < 15 by omega), ringOf_recv, hopOf_recv]

theorem rest_bar (c : Dev nD) : bigSep ((ringRd P).duties (barCell c) 0 \ ∅) (fun d => (ringRd P).payload (barCell c) 0 d)
    = iprop(slots 0 (fwd 0 c) ∗ slots 1 (fwd 1 c)) := by
  rw [Finset.sdiff_empty, duties_bar, bigSep_univ_eq_bigSepL [0, 1] (by decide) (by decide), bigSepL_cons_cons, bigSepL_singleton]
  rfl
theorem rest_send (r : Fin 2) (h : Fin 6) (c : Dev nD) :
    bigSep ((ringRd P).duties (sendCell r h c) 0 \ ∅) (fun d => (ringRd P).payload (sendCell r h c) 0 d) = sendPay P r h.val c := by
  rw [Finset.sdiff_empty, duties_send, bigSep_singleton, payload_send]
theorem rest_recv (r : Fin 2) (h : Fin 6) (c : Dev nD) :
    bigSep ((ringRd P).duties (recvCell r h c) 0 \ ∅) (fun d => (ringRd P).payload (recvCell r h c) 0 d) = recvPay P r h.val (bwd r c) := by
  rw [Finset.sdiff_empty, duties_recv, bigSep_singleton, payload_recv]

end Contents

/-! ## Levels, and what a device owes -/

def L (g : GSem nD τ sig) : Finset Unit := if g.1.2 = .tc then {()} else ∅
/-- Staging cells at 0, the barrier at 1, the cells of hop `h` at `2 + h`. -/
def lv (g : GSem nD τ sig) (_ : Unit) : ℕ := match g.2 with
  | .reg _ => 1
  | .dma q => if q.val < 3 then 0 else 2 + (hopOf q).val

theorem L_of_ne (g : GSem nD τ sig) (h : g.1.2 ≠ .tc) : L g = ∅ := if_neg h
theorem L_tc (c : Dev nD) (sm : SemLoc sig) : L ((c : Thread nD τ), sm) = {()} := if_pos rfl
theorem lv_send (r : Fin 2) (h : Fin 6) (c : Dev nD) : lv (sendCell r h c) () = 2 + h.val :=
  (if_neg (show ¬ 3 + 6 * r.val + h.val < 3 by omega)).trans (by rw [hopOf_send])
theorem lv_recv (r : Fin 2) (h : Fin 6) (c : Dev nD) : lv (recvCell r h c) () = 2 + h.val :=
  (if_neg (show ¬ 15 + 6 * r.val + h.val < 3 by omega)).trans (by rw [hopOf_recv])

/-- The cell that copy number `n` in program order pays: ring `n % 2`, hop `n / 2`. -/
abbrev nthCell (n : ℕ) (c : Dev nD) : GSem nD τ sig :=
  recvCell ⟨n % 2, Nat.mod_lt _ (by decide)⟩ ⟨n / 2 % 6, Nat.mod_lt _ (by decide)⟩ (fwd ⟨n % 2, Nat.mod_lt _ (by decide)⟩ c)

/-- What device `c` owes when its last `j` copies are still to come. -/
def rem (c : Dev nD) : ℕ → CellTallies nD τ sig Unit
  | 0 => 0
  | j + 1 => rem c j + tallyAt (nthCell (11 - j) c) () N

/-- At launch: all twelve copies and the two barrier signals, the first signal last in the sum. -/
def O₁ (c : Dev nD) : CellTallies nD τ sig Unit := rem c 12 + tallyAt (barCell (fwd 0 c)) () 1
def O₀ (c : Dev nD) : CellTallies nD τ sig Unit := O₁ c + tallyAt (barCell (fwd 1 c)) () 1

theorem rem_pos {c : Dev nD} {j : ℕ} (hj : j ≤ 12) {g : GSem nD τ sig} {u : Unit} (h : 0 < rem c j g u) :
    ∃ n, 12 - j ≤ n ∧ n < 12 ∧ g = nthCell n c := by
  induction j with
  | zero => exact absurd h (Nat.lt_irrefl 0)
  | succ j ih =>
    unfold rem at h
    rw [Pi.add_apply, Finsupp.add_apply, tallyAt_apply] at h
    by_cases hg : g = nthCell (11 - j) c ∧ u = ()
    · exact ⟨11 - j, by omega, by omega, hg.1⟩
    · rw [if_neg hg, Nat.add_zero] at h
      obtain ⟨n, h1, h2, h3⟩ := ih (by omega) h
      exact ⟨n, by omega, h2, h3⟩

/-- What is still owed sits on TensorCores, above level `l`: what a wait at level `l` needs. -/
def Above (l : ℕ) (O : CellTallies nD τ sig Unit) : Prop := ∀ g u, 0 < O g u → g.1.2 = .tc ∧ l < lv g u

theorem above_zero (l : ℕ) : Above l 0 := fun g u h => absurd h (Nat.lt_irrefl 0)
theorem above_rem (c : Dev nD) (j l : ℕ) (hj : j + 2 * l + 2 ≤ 12) : Above (2 + l) (rem c j) := fun g u h => by
  obtain ⟨n, h1, h2, rfl⟩ := rem_pos (by omega) h
  refine ⟨rfl, ?_⟩
  show 2 + l < lv (recvCell _ _ _) ()
  rw [lv_recv]
  show 2 + l < 2 + n / 2 % 6
  omega
theorem above_rem_bar (c : Dev nD) : Above 1 (rem c 12) := fun g u h => by
  obtain ⟨n, h1, h2, rfl⟩ := rem_pos le_rfl h
  refine ⟨rfl, ?_⟩
  show 1 < lv (recvCell _ _ _) ()
  rw [lv_recv]; omega
theorem above_O₀ (c : Dev nD) : Above 0 (O₀ c) := fun g u h => by
  unfold O₀ O₁ at h
  rw [Pi.add_apply, Finsupp.add_apply, Pi.add_apply, Finsupp.add_apply, tallyAt_apply, tallyAt_apply] at h
  by_cases h1 : g = barCell (fwd 1 c) ∧ u = ()
  · rw [h1.1]; exact ⟨rfl, Nat.one_pos⟩
  by_cases h2 : g = barCell (fwd 0 c) ∧ u = ()
  · rw [h2.1]; exact ⟨rfl, Nat.one_pos⟩
  rw [if_neg h1, if_neg h2] at h
  exact ⟨(above_rem_bar c g u h).1, Nat.lt_trans Nat.one_pos (above_rem_bar c g u h).2⟩

/-- A wait of a device's TensorCore below all that it owes is allowed. -/
theorem mayWait_of_above (c : Dev nD) (s : SemLoc sig) {O : CellTallies nD τ sig Unit} (h : Above (lv ((c : Thread nD τ), s) ()) O) :
    (levAts L lv : sProp 𝕄) ⊢ MayWait (c : Thread nD τ) s () O :=
  Pipeline.mayWait_of_levAts (by rw [L_tc]; exact Finset.mem_singleton_self _) fun g i hg =>
    ⟨by unfold L; rw [if_pos (h g i hg).1]; exact Finset.mem_singleton_self _, (h g i hg).2⟩

end Cert.AllReduce
-- ==== Proof.Steps.lean ====
/-
# One hop of one ring, on one device

What the kernel does at hop `h` of ring `r`: wait for its own copy and for the peer's, add its product to what came in
(hops 0 to 2), start the copy of the next hop, store the completed block into the result (hops 2 to 5). Each of the
four kinds of hop is stated once for every ring and device.
-/
module

public import proofs.«01_k».proof.Proof.Schedule

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The program of one core. -/
abbrev Pg (F : FTy → Type) [FloatOps F] (α : Type) : Type 1 := Prog (TpuEff nD τ sig (Elt F) Λ₀ .tc) α

/-- Every route between two devices of the mesh is open. -/
theorem routes_all (c c' : Dev nD) : τ.routes (c : Thread nD τ) (c' : Thread nD τ) = true := by revert c c'; decide

/-! ## What a device knows and holds -/

section Ghost
variable (P : Fin 2 → Dev nD → Dev nD → Blk F) (K : Dev nD × Ci → ℕ)

/-- Every cell's invariant, and that its round 0 has begun. -/
def recs : sProp 𝕄 := bigSep Finset.univ fun ck : Dev nD × Ci => iprop(cellInv ER (ringRd P) (K ck) (kcell ck) ∗ reached ER (kcell ck) 0)
/-- What every device knows all along. -/
def ctx : sProp 𝕄 := iprop(recs P K ∗ levAts L lv)

instance recs_persistent : BI.Persistent (recs P K) := by unfold recs; infer_instance
instance ctx_persistent : BI.Persistent (ctx P K) := by unfold ctx; infer_instance

theorem ctx_cell (c : Dev nD) (k : Ci) :
    ctx P K ⊢ iprop(cellInv ER (ringRd P) (K (c, k)) (kcell (c, k)) ∗ reached ER (kcell (c, k)) 0) := by
  unfold ctx
  refine BIBase.Entails.trans (Q := recs P K) (by iintro ⟨H, -⟩; iexact H) ?_
  exact BI.bigSep_elim (Φ := fun ck : Dev nD × Ci => iprop(cellInv ER (ringRd P) (K ck) (kcell ck) ∗ reached ER (kcell ck) 0)) (Finset.mem_univ (c, k))
theorem ctx_lev : ctx P K ⊢ levAts L lv := by unfold ctx; iintro ⟨-, H⟩; iexact H

end Ghost

/-- What the copy of hop `h` on ring `r` needs beside its buffers, and the two waits after it. -/
def toSend (r : Fin 2) (h : Fin 6) (c : Dev nD) : sProp 𝕄 :=
  iprop(atPos ER (sendCell r h c) 0 ∅ 0 ∗ atPos ER (recvCell r h c) 0 ∅ 0 ∗ cred (tallyAt (recvCell r h c) () N)
    ∗ dutyTok ER (sendCell r h c) 0 0 ∗ dutyTok ER (recvCell r h (fwd r c)) 0 0)
/-- Once the copy has started. -/
def toWait (r : Fin 2) (h : Fin 6) (c : Dev nD) : sProp 𝕄 :=
  iprop(atPos ER (sendCell r h c) 0 ∅ 0 ∗ atPos ER (recvCell r h c) 0 ∅ 0 ∗ cred (tallyAt (recvCell r h c) () N) ∗ cred (tallyAt (sendCell r h c) () N))
/-- After the two waits. -/
def waited (r : Fin 2) (h : Fin 6) (c : Dev nD) : sProp 𝕄 := iprop(semVal (sendCell r h c) 0 ∗ semVal (recvCell r h c) 0)
/-- What the device owes, whatever it has waited on. -/
def owing (c : Dev nD) (O : CellTallies nD τ sig Unit) : sProp 𝕄 := iprop(∃ W, owes (c : Thread nD τ) O W)

section Steps
variable (P : Fin 2 → Dev nD → Dev nD → Blk F) (K : Dev nD × Ci → ℕ)

/-! ## The two waits -/

theorem wp_waits {α : Type} {Q : α → sProp 𝕄} (r : Fin 2) (h : Fin 6) (c : Dev nD) {qs qr : DmaSem sig} (hqs : qs = sendS r h) (hqr : qr = recvS r h)
    {O : CellTallies nD τ sig Unit} (hO : Above (2 + h.val) O)
    {sp₁ sp₂ sp₃ sp₄ : Space} {s₁ s₂ s₃ s₄ : Shape} {e₁ e₂ e₃ e₄ : EltTy} {m₁ : Memref sig .tc sp₁ s₁ e₁} {m₂ : Memref sig .tc sp₂ s₂ e₂}
    {m₃ : Memref sig .tc sp₃ s₃ e₃} {m₄ : Memref sig .tc sp₄ s₄ e₄}
    {h₁ : m₁.view.WordExact} {h₂ : m₂.view.WordExact} {h₃ : m₃.view.WordExact} {h₄ : m₄.view.WordExact}
    (hN₂ : m₂.view.dmaCredit = N) (hN₄ : m₄.view.dmaCredit = N) {k : PUnit → Pg F α} :
    iprop(ctx P K ∗ toWait r h c ∗ owing c O)
      ⊢ iprop(((waited r h c ∗ sendPay P r h.val c ∗ recvPay P r h.val (bwd r c) ∗ owing c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qs m₁ m₂ h₁ h₂) fun _ => .op (.waitDma2 qr m₃ m₄ h₃ h₄) k) Q) := by
  subst hqs hqr
  unfold toWait owing
  iintro ⟨#Hctx, ⟨HaS, HaR, HcR, HcS⟩, ⟨%W, HO⟩⟩ Hk
  ihave HS := (ctx_cell P K c (some (false, r, h))) $$ Hctx
  icases HS with ⟨#HIs, -⟩
  ihave HR := (ctx_cell P K c (some (true, r, h))) $$ Hctx
  icases HR with ⟨#HIr, -⟩
  ihave #Hlev := (ctx_lev P K) $$ Hctx
  iapply (Rounds.wp_wait_rest_token 𝒱₀ ER (ringRd P) (c : Thread nD τ) none (κ := K (c, some (false, r, h)))
      (wpE_waitDma2_eq 𝒱₀ (c : Thread nD τ) none Set.univ) (Set.mem_univ _) () (O := O) (W := W) (R := 0) (m := 0) (T := ∅)
      (by rw [Nat.zero_add, hN₂]; exact (expect_send P r h c).symm)) $$ [HcS HO HaS]
  · isplitr; · iexact HIs
    isplitl [HcS]; · rw [hN₂]; iexact HcS
    isplitl [HO]; · iexact HO
    isplitr
    · iapply (mayWait_of_above c (.dma (sendS r h)) (by rw [lv_send]; exact hO)); iexact Hlev
    iexact HaS
  iintro ⟨HO, HaS, -, HpS⟩
  ihave HpS := (BIBase.Entails.of_eq (rest_send P r h c)) $$ HpS
  iapply (Rounds.wp_wait_rest_token 𝒱₀ ER (ringRd P) (c : Thread nD τ) none (κ := K (c, some (true, r, h)))
      (wpE_waitDma2_eq 𝒱₀ (c : Thread nD τ) none Set.univ) (Set.mem_univ _) () (O := O) (W := insert (SemLoc.dma (sendS r h), ()) W) (R := 0) (m := 0) (T := ∅)
      (by rw [Nat.zero_add, hN₄]; exact (expect_recv P r h c).symm)) $$ [HcR HO HaR]
  · isplitr; · iexact HIr
    isplitl [HcR]; · rw [hN₄]; iexact HcR
    isplitl [HO]; · iexact HO
    isplitr
    · iapply (mayWait_of_above c (.dma (recvS r h)) (by rw [lv_recv]; exact hO)); iexact Hlev
    iexact HaR
  iintro ⟨HO, HaR, -, HpR⟩
  ihave HpR := (BIBase.Entails.of_eq (rest_recv P r h c)) $$ HpR
  imod (Rounds.cell_close ER (ringRd P) (Set.mem_univ (K (c, some (false, r, h)))) (fun h => h) (R := 0 + 1) (duties_later P (sendCell r h c))) $$ [HaS] with HzS
  · isplitr; · iexact HIs
    iexact HaS
  imod (Rounds.cell_close ER (ringRd P) (Set.mem_univ (K (c, some (true, r, h)))) (fun h => h) (R := 0 + 1) (duties_later P (recvCell r h c))) $$ [HaR] with HzR
  · isplitr; · iexact HIr
    iexact HaR
  iapply Hk
  unfold waited
  isplitl [HzS HzR]
  · isplitl [HzS] <;> iassumption
  isplitl [HpS]; · iexact HpS
  isplitl [HpR]; · iexact HpR
  iexists _; iexact HO

/-! ## Starting the next copy -/

/-- A copy of hops 0 to 2: source, landing slot of the peer, and the sources to pass on. -/
theorem wp_send_reduce {α : Type} {Q : α → sProp 𝕄} (r : Fin 2) (k : Fin 3) (h : Fin 6) (hk : h.val = k.val) (c : Dev nD) {n : Dev nD} (hn : n = fwd r c)
    {qs qr : DmaSem sig} (hqs : qs = sendS r h) (hqr : qr = recvS r h)
    {O₀ : CellTallies nD τ sig Unit} (O : CellTallies nD τ sig Unit) (hO : O₀ = O + tallyAt (recvCell r h (fwd r c)) () N)
    {offs : Fin 3 → ℕ} (hoffs : offs = accOff r (back r k.val c)) {inbs : ∀ a, offs a + S1x512x1024.size a ≤ S2x2048x1024.size a}
    {offd : Fin 4 → ℕ} (hoffd : offd = recvOff r k) {inbd : ∀ a, offd a + S1x1x512x1024.size a ≤ S2x3x512x1024.size a}
    {us : ∀ a, (Rect.unit (s := S2x2048x1024) offs S1x512x1024.size inbs).stride a = 1} {ud : ∀ a, (Rect.unit (s := S2x3x512x1024) offd S1x1x512x1024.size inbd).stride a = 1}
    {sqs : (Rect.unit (s := S2x2048x1024) offs S1x512x1024.size inbs).shape.Squeezes S512x1024} {sqd : (Rect.unit (s := S2x3x512x1024) offd S1x1x512x1024.size inbd).shape.Squeezes S512x1024}
    {hsc : ((recvM.slice (Rect.unit (s := S2x3x512x1024) offd S1x1x512x1024.size inbd) ud).squeeze S512x1024 sqd : Memref sig (Dev.tc n : Thread nD τ).2.kind .vmem S512x1024 .bf16).view.ref.isScScratch = false}
    {hsrc : ((accM.slice (Rect.unit (s := S2x2048x1024) offs S1x512x1024.size inbs) us).squeeze S512x1024 sqs).view.WordExact}
    {hdst : ((recvM.slice (Rect.unit (s := S2x3x512x1024) offd S1x1x512x1024.size inbd) ud).squeeze S512x1024 sqd).view.WordExact}
    {hsem : DmaTarget.Typed .vmem (.dma qr) (.remote (Dev.tc n : Thread nD τ) ((recvM.slice (Rect.unit (s := S2x3x512x1024) offd S1x1x512x1024.size inbd) ud).squeeze S512x1024 sqd) (.dma qs) hsc)}
    {kk : PUnit → Pg F α} :
    iprop(ctx P K ∗ toSend r h c ∗ src P r k.val c ∗ (∃ Y, owns (fwd r c : Thread nD τ) (recvB r k) fullShare Y) ∗ carry P r k.val c ∗ owing c O₀)
      ⊢ iprop(((toWait r h c ∗ owing c O) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((accM.slice (Rect.unit (s := S2x2048x1024) offs S1x512x1024.size inbs) us).squeeze S512x1024 sqs)
                (.remote (Dev.tc n : Thread nD τ) ((recvM.slice (Rect.unit (s := S2x3x512x1024) offd S1x1x512x1024.size inbd) ud).squeeze S512x1024 sqd) (.dma qs) hsc)
                (.dma qr) hsrc hdst hsem) kk) Q) := by
  subst hn hqs hqr hoffs hoffd
  unfold toSend owing
  iintro ⟨#Hctx, ⟨HaS, HaR, HcR, HtS, HtR⟩, Hsrc, Hdst, Hca, ⟨%W, HO⟩⟩ Hk
  ihave HS := (ctx_cell P K c (some (false, r, h))) $$ Hctx
  icases HS with ⟨#HIs, #Hrs⟩
  ihave HR := (ctx_cell P K (fwd r c) (some (true, r, h))) $$ Hctx
  icases HR with ⟨#HIr, #Hrr⟩
  iapply (wp_send_all (ringRd P) (c : Thread nD τ) (fwd r c : Thread nD τ) (κ₁ := K (c, some (false, r, h))) (κ₂ := K (fwd r c, some (true, r, h)))
    (sS := .dma (sendS r h)) (sem := .dma (recvS r h)) (d₁ := 0) (d₂ := 0) (X := partialSum P r k.val c) (G := carry P r k.val c) (src := accB r (back r k.val c)) (dst := recvB r k)
    (by rw [duties_send]; exact Finset.mem_singleton_self _) (by rw [duties_recv]; exact Finset.mem_singleton_self _) N (credit_recv r k)
    (amount_send P r h c 0) (amount_recv P r h (fwd r c) 0) O hO (W := W)
    (by rw [payload_send]; unfold sendPay; rw [if_pos (by omega)])
    (by
      rw [payload_recv, bwd_fwd]; unfold recvPay src
      rw [dif_pos (show h.val < 3 by omega)]
      simp only [hk]
      exact .rfl)
    (routes_all c (fwd r c))) $$ [Hsrc Hdst Hca HO HtS HtR]
  · isplitr; · iexact HIs
    isplitr; · iexact HIr
    isplitl [Hsrc]; · unfold src; iexact Hsrc
    isplitl [Hdst]; · iexact Hdst
    isplitl [Hca]; · iexact Hca
    isplitl [HO]; · iexact HO
    isplitl [HtS]; · iexact HtS
    isplitr; · iexact Hrs
    isplitl [HtR]; · iexact HtR
    iexact Hrr
  iintro ⟨HcS, HO⟩
  iapply Hk
  unfold toWait
  isplitl [HaS HaR HcR HcS]
  · isplitl [HaS]; · iexact HaS
    isplitl [HaR]; · iexact HaR
    isplitl [HcR] <;> iassumption
  iexists W; iexact HO

/-- A copy of hops 3 to 5: half a share of the complete block, into the same place of the peer's accumulator. -/
theorem wp_send_gather {α : Type} {Q : α → sProp 𝕄} (r : Fin 2) (h : Fin 6) (hk : 3 ≤ h.val) (c : Dev nD) {n : Dev nD} (hn : n = fwd r c)
    {qs qr : DmaSem sig} (hqs : qs = sendS r h) (hqr : qr = recvS r h)
    {O₀ : CellTallies nD τ sig Unit} (O : CellTallies nD τ sig Unit) (hO : O₀ = O + tallyAt (recvCell r h (fwd r c)) () N)
    {offs : Fin 3 → ℕ} (hoffs : offs = accOff r (back r h.val c)) {inbs inbd : ∀ a, offs a + S1x512x1024.size a ≤ S2x2048x1024.size a}
    {us : ∀ a, (Rect.unit (s := S2x2048x1024) offs S1x512x1024.size inbs).stride a = 1} {ud : ∀ a, (Rect.unit (s := S2x2048x1024) offs S1x512x1024.size inbd).stride a = 1}
    {sqs : (Rect.unit (s := S2x2048x1024) offs S1x512x1024.size inbs).shape.Squeezes S512x1024} {sqd : (Rect.unit (s := S2x2048x1024) offs S1x512x1024.size inbd).shape.Squeezes S512x1024}
    {hsc : ((accM.slice (Rect.unit (s := S2x2048x1024) offs S1x512x1024.size inbd) ud).squeeze S512x1024 sqd : Memref sig (Dev.tc n : Thread nD τ).2.kind .vmem S512x1024 .bf16).view.ref.isScScratch = false}
    {hsrc : ((accM.slice (Rect.unit (s := S2x2048x1024) offs S1x512x1024.size inbs) us).squeeze S512x1024 sqs).view.WordExact}
    {hdst : ((accM.slice (Rect.unit (s := S2x2048x1024) offs S1x512x1024.size inbd) ud).squeeze S512x1024 sqd).view.WordExact}
    {hsem : DmaTarget.Typed .vmem (.dma qr) (.remote (Dev.tc n : Thread nD τ) ((accM.slice (Rect.unit (s := S2x2048x1024) offs S1x512x1024.size inbd) ud).squeeze S512x1024 sqd) (.dma qs) hsc)}
    {kk : PUnit → Pg F α} :
    iprop(ctx P K ∗ toSend r h c ∗ owns (c : Thread nD τ) (accB r (back r h.val c)) fullShare.left (total P r (back r h.val c))
        ∗ (∃ Y, owns (fwd r c : Thread nD τ) (accB r (back r h.val c)) fullShare Y) ∗ carry P r h.val c ∗ owing c O₀)
      ⊢ iprop(((toWait r h c ∗ owing c O) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((accM.slice (Rect.unit (s := S2x2048x1024) offs S1x512x1024.size inbs) us).squeeze S512x1024 sqs)
                (.remote (Dev.tc n : Thread nD τ) ((accM.slice (Rect.unit (s := S2x2048x1024) offs S1x512x1024.size inbd) ud).squeeze S512x1024 sqd) (.dma qs) hsc)
                (.dma qr) hsrc hdst hsem) kk) Q) := by
  subst hn hqs hqr hoffs
  unfold toSend owing
  iintro ⟨#Hctx, ⟨HaS, HaR, HcR, HtS, HtR⟩, Hsrc, Hdst, Hca, ⟨%W, HO⟩⟩ Hk
  ihave HS := (ctx_cell P K c (some (false, r, h))) $$ Hctx
  icases HS with ⟨#HIs, #Hrs⟩
  ihave HR := (ctx_cell P K (fwd r c) (some (true, r, h))) $$ Hctx
  icases HR with ⟨#HIr, #Hrr⟩
  iapply (wp_send_lend (ringRd P) (c : Thread nD τ) (fwd r c : Thread nD τ) (κ₁ := K (c, some (false, r, h))) (κ₂ := K (fwd r c, some (true, r, h)))
    (sS := .dma (sendS r h)) (sem := .dma (recvS r h)) (d₁ := 0) (d₂ := 0) (q := fullShare.left) (X := total P r (back r h.val c)) (G := carry P r h.val c) (src := accB r (back r h.val c)) (dst := accB r (back r h.val c))
    (by rw [duties_send]; exact Finset.mem_singleton_self _) (by rw [duties_recv]; exact Finset.mem_singleton_self _) N (credit_acc r _)
    (amount_send P r h c 0) (amount_recv P r h (fwd r c) 0) O hO (W := W)
    (by rw [payload_send]; unfold sendPay; rw [if_neg (by omega)])
    (by
      rw [payload_recv, bwd_fwd]; unfold recvPay
      rw [dif_neg (show ¬ h.val < 3 by omega)])
    (routes_all c (fwd r c))) $$ [Hsrc Hdst Hca HO HtS HtR]
  · isplitr; · iexact HIs
    isplitr; · iexact HIr
    isplitl [Hsrc]; · iexact Hsrc
    isplitl [Hdst]; · iexact Hdst
    isplitl [Hca]; · iexact Hca
    isplitl [HO]; · iexact HO
    isplitl [HtS]; · iexact HtS
    isplitr; · iexact Hrs
    isplitl [HtR]; · iexact HtR
    iexact Hrr
  iintro ⟨HcS, HO⟩
  iapply Hk
  unfold toWait
  isplitl [HaS HaR HcR HcS]
  · isplitl [HaS]; · iexact HaS
    isplitl [HaR]; · iexact HaR
    isplitl [HcR] <;> iassumption
  iexists W; iexact HO

end Steps

end Cert.AllReduce
-- ==== Proof.Hops.lean ====
/-
# The hops

The loads, the sum and the stores of one hop, and the four kinds of hop put together from the steps: a reducing hop
that starts another one (hops 0 and 1), the turn (hop 2), a gathering hop (hops 3 and 4), the last (hop 5).
-/
module

public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Hops
variable (P : Fin 2 → Dev nD → Dev nD → Blk F) (K : Dev nD × Ci → ℕ)

/-- What is stored of a complete block: its positive part, widened. -/
def reluBlk (T : Blk F) : Vec F S512x1024 .f32 := k0_pay1 (shapeCast S1x512x1024 T shapeCasts_S512x1024_S1x512x1024 : Vec F S1x512x1024 .bf16)

/-- The sum of two blocks as the kernel forms it, its unit axis dropped. -/
theorem sum_eq (a b : Blk F) :
    shapeCast S512x1024 (k0_pay6 (shapeCast S1x512x1024 a shapeCasts_S512x1024_S1x512x1024 : Vec F S1x512x1024 .bf16)
      (shapeCast S1x1x512x1024 b (by decide) : Vec F S1x1x512x1024 .bf16)) shapeCasts_S1x512x1024_S512x1024 = (addf a b : FVec F S512x1024 .bf16) := by
  unfold k0_pay6
  simp only [shapeCast_shapeCast]

/-- Add the device's own block to the one that came in. -/
theorem wp_accumulate {α : Type} {Q : α → sProp 𝕄} (r : Fin 2) (k : Fin 3) (c : Dev nD)
    {oa : Fin 3 → ℕ} (hoa : oa = accOff r (back r (k.val + 1) c)) {ia1 ia2 ia3 : ∀ a, oa a + S1x512x1024.size a ≤ S2x2048x1024.size a}
    {ol : Fin 4 → ℕ} (hol : ol = recvOff r k) {il : ∀ a, ol a + S1x1x512x1024.size a ≤ S2x3x512x1024.size a}
    {la1 : accM.view.LoadsAt (Rect.unit (s := S2x2048x1024) oa S1x512x1024.size ia1).toLoadRect} {ll : recvM.view.LoadsAt (Rect.unit (s := S2x3x512x1024) ol S1x1x512x1024.size il).toLoadRect} {la2 : accM.view.LoadsAt (Rect.unit (s := S2x2048x1024) oa S1x512x1024.size ia2).toLoadRect}
    {w : Vec F S1x512x1024 .bf16 → Vec F S1x1x512x1024 .bf16 → Vec F S1x512x1024 .bf16} (hw : ∀ v v', w v v' = k0_pay6 v v')
    {hx : (accM.access (Rect.unit (s := S2x2048x1024) oa S1x512x1024.size ia3)).Stores Finset.univ} {hm : (Finset.univ : Finset (Rect.unit (s := S2x2048x1024) oa S1x512x1024.size ia3).shape.Idx) = Finset.univ ∨ ∀ a, (Rect.unit (s := S2x2048x1024) oa S1x512x1024.size ia3).stride a = 1}
    {kk : PUnit → Pg F α} :
    iprop(owns (c : Thread nD τ) (accB r (back r (k.val + 1) c)) fullShare (P r c (back r (k.val + 1) c)) ∗ owns (c : Thread nD τ) (recvB r k) fullShare (partialSum P r k.val (bwd r c)))
      ⊢ iprop(((src P r (k.val + 1) c ∗ owns (c : Thread nD τ) (recvB r k) fullShare (partialSum P r k.val (bwd r c)))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.load accM (Rect.unit (s := S2x2048x1024) oa S1x512x1024.size ia1).toLoadRect la1) fun v => .op (.load recvM (Rect.unit (s := S2x3x512x1024) ol S1x1x512x1024.size il).toLoadRect ll) fun v' =>
                .op (.load accM (Rect.unit (s := S2x2048x1024) oa S1x512x1024.size ia2).toLoadRect la2) fun _ => .op (.store accM (Rect.unit (s := S2x2048x1024) oa S1x512x1024.size ia3) (w v v') Finset.univ hx hm) kk) Q) := by
  subst hoa hol
  iintro ⟨Ha, Hl⟩ Hk
  iapply (wp_load_piece (c : Thread nD τ) accM (r := accR r (back r (k.val + 1) c)) (h := squeezes_S1x512x1024_S512x1024)) $$ Ha; iintro Ha
  iapply (wp_load_piece (c : Thread nD τ) recvM (r := recvR r k) (h := squeezes_S1x1x512x1024_S512x1024)) $$ Hl; iintro Hl
  iapply (wp_load_piece (c : Thread nD τ) accM (r := accR r (back r (k.val + 1) c)) (h := squeezes_S1x512x1024_S512x1024)) $$ Ha; iintro Ha
  iapply (wp_store_piece (c : Thread nD τ) accM (r := accR r (back r (k.val + 1) c)) (h := squeezes_S1x512x1024_S512x1024)) $$ Ha; iintro Ha
  iapply Hk
  isplitl [Ha]
  · unfold src
    rw [hw, show partialSum P r (k.val + 1) c = _ from (sum_eq (P r c (back r (k.val + 1) c)) (partialSum P r k.val (bwd r c))).symm]
    iexact Ha
  iexact Hl

/-- Store a complete block, read through any share of it. -/
theorem wp_relu {α : Type} {Q : α → sProp 𝕄} (r : Fin 2) (i : Dev nD) (c : Dev nD) {q : PosShare TreeShare} {T : Blk F}
    {ob : Fin 3 → ℕ} (hob : ob = accOff r (i)) {ib : ∀ a, ob a + S1x512x1024.size a ≤ S2x2048x1024.size a}
    {oo : Fin 2 → ℕ} (hoo : oo = outOff r (i)) {io1 io2 : ∀ a, oo a + S512x1024.size a ≤ S2048x2048.size a}
    {lb : accM.view.LoadsAt (Rect.unit (s := S2x2048x1024) ob S1x512x1024.size ib).toLoadRect} {lo : outM.view.LoadsAt (Rect.unit (s := S2048x2048) oo S512x1024.size io1).toLoadRect}
    {w' : Vec F S1x512x1024 .bf16 → Vec F S512x1024 .f32} (hw' : ∀ v, w' v = k0_pay1 v)
    {hx' : (outM.access (Rect.unit (s := S2048x2048) oo S512x1024.size io2)).Stores Finset.univ} {hm' : (Finset.univ : Finset (Rect.unit (s := S2048x2048) oo S512x1024.size io2).shape.Idx) = Finset.univ ∨ ∀ a, (Rect.unit (s := S2048x2048) oo S512x1024.size io2).stride a = 1}
    {kk : PUnit → Pg F α} :
    iprop(owns (c : Thread nD τ) (accB r i) q T ∗ (∃ Y, owns (c : Thread nD τ) (outB r i) fullShare Y))
      ⊢ iprop(((owns (c : Thread nD τ) (accB r i) q T ∗ owns (c : Thread nD τ) (outB r i) fullShare (reluBlk T))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.load accM (Rect.unit (s := S2x2048x1024) ob S1x512x1024.size ib).toLoadRect lb) fun v => .op (.load outM (Rect.unit (s := S2048x2048) oo S512x1024.size io1).toLoadRect lo) fun _ =>
                .op (.store outM (Rect.unit (s := S2048x2048) oo S512x1024.size io2) (w' v) Finset.univ hx' hm') kk) Q) := by
  subst hob hoo
  iintro ⟨Ha, ⟨%Y, Ho⟩⟩ Hk
  iapply (wp_load_piece (c : Thread nD τ) accM (r := accR r i) (h := squeezes_S1x512x1024_S512x1024)) $$ Ha; iintro Ha
  iapply (wp_load_slice (c : Thread nD τ) outM (r := outR r i) (hr := fun _ => rfl)) $$ Ho; iintro Ho
  iapply (wp_store_slice (c : Thread nD τ) outM (r := outR r i) (hr := fun _ => rfl)) $$ Ho; iintro Ho
  iapply Hk
  isplitl [Ha]; · iexact Ha
  rw [hw']
  iexact Ho

/-! ## The sources that travel -/

theorem back_back (r : Fin 2) (j k : ℕ) (c : Dev nD) : back r j (back r k c) = back r (j + k) c := by
  refine Fin.ext ?_
  show ((c.val + k * (3 - 2 * r.val)) % 4 + j * (3 - 2 * r.val)) % 4 = (c.val + (j + k) * (3 - 2 * r.val)) % 4
  rw [Nat.mod_add_mod, Nat.add_assoc, ← Nat.add_mul, Nat.add_comm k j]

/-- What a reducing hop brings, passed on by the next: hops 0 and 1; -/
theorem carry_reduce (r : Fin 2) (k : ℕ) (hk : k < 2) (c : Dev nD) :
    iprop(carry P r k (bwd r c) ∗ src P r k (bwd r c)) ⊢ carry P r (k + 1) c := by
  rcases (by omega : k = 0 ∨ k = 1) with rfl | rfl
  · show iprop(emp ∗ src P r 0 (bwd r c)) ⊢ src P r 0 (bwd r c)
    iintro ⟨-, H⟩; iexact H
  · show iprop(src P r 0 (back r 1 (bwd r c)) ∗ src P r 1 (bwd r c)) ⊢ iprop(src P r 1 (back r 1 c) ∗ src P r 0 (back r 2 c))
    rw [back_bwd]
    iintro ⟨H1, H2⟩
    isplitl [H2] <;> iassumption

/-- at the turn the oldest is where hop 3's copy lands, the others are passed on; -/
theorem carry_turn (r : Fin 2) (c : Dev nD) :
    iprop(carry P r 2 (bwd r c) ∗ src P r 2 (bwd r c))
      ⊢ iprop((∃ Y, owns (fwd r c : Thread nD τ) (accB r (back r 3 c)) fullShare Y) ∗ carry P r 3 c) := by
  show iprop((src P r 1 (back r 1 (bwd r c)) ∗ src P r 0 (back r 2 (bwd r c))) ∗ src P r 2 (bwd r c)) ⊢ iprop(_ ∗ (src P r 2 (back r 1 c) ∗ src P r 1 (back r 2 c)))
  rw [back_bwd, back_bwd]
  iintro ⟨⟨H1, H0⟩, H2⟩
  isplitl [H0]
  · unfold src
    rw [back_back, back_three]
    iexists _; iexact H0
  isplitl [H2] <;> iassumption

/-- then hop 4 writes the next, hop 5 the last. -/
theorem carry_gather (r : Fin 2) (h : ℕ) (hh : h = 3 ∨ h = 4) (c : Dev nD) :
    carry P r h (bwd r c) ⊢ iprop((∃ Y, owns (fwd r c : Thread nD τ) (accB r (back r (h + 1) c)) fullShare Y) ∗ carry P r (h + 1) c) := by
  rcases hh with rfl | rfl
  · show iprop(src P r 2 (back r 1 (bwd r c)) ∗ src P r 1 (back r 2 (bwd r c))) ⊢ iprop(_ ∗ src P r 2 (back r 2 c))
    rw [back_bwd, back_bwd]
    iintro ⟨H2, H1⟩
    isplitl [H1]
    · unfold src
      rw [back_back, back_three]
      iexists _; iexact H1
    iexact H2
  · show src P r 2 (back r 2 (bwd r c)) ⊢ iprop(_ ∗ emp)
    rw [back_bwd]
    iintro H2
    isplitl [H2]
    · unfold src
      rw [back_back, back_three]
      iexists _; iexact H2
    iempintro

/-! ## What a landing brings -/

theorem recvPay_reduce (r : Fin 2) (k : Fin 3) (c : Dev nD) :
    recvPay P r k.val (bwd r c) = iprop((owns (c : Thread nD τ) (recvB r k) fullShare (partialSum P r k.val (bwd r c)) ∗ carry P r k.val (bwd r c)) ∗ src P r k.val (bwd r c)) := by
  unfold recvPay; rw [dif_pos k.isLt, fwd_bwd]
theorem recvPay_gather (r : Fin 2) (h : ℕ) (hh : 3 ≤ h) (c : Dev nD) :
    recvPay P r h (bwd r c) = iprop(owns (c : Thread nD τ) (accB r (back r (h + 1) c)) fullShare (total P r (back r (h + 1) c)) ∗ carry P r h (bwd r c)) := by
  unfold recvPay; rw [dif_neg (by omega), fwd_bwd, back_bwd]

/-! ## The four kinds of hop -/

/-- Hops 0 and 1: the block that came in, summed, goes on. -/
theorem wp_hop_reduce {α : Type} {Q : α → sProp 𝕄} (r : Fin 2) (k k' : Fin 3) (hkk : k'.val = k.val + 1) (h h' : Fin 6) (hh : h.val = k.val) (hh' : h'.val = k'.val) (c : Dev nD)
    {O₀ : CellTallies nD τ sig Unit} (hA : Above (2 + h.val) O₀) (O : CellTallies nD τ sig Unit) (hO : O₀ = O + tallyAt (recvCell r h' (fwd r c)) () N)
    {qs qr : DmaSem sig} (hqs : qs = sendS r h) (hqr : qr = recvS r h)
    {sp₁ sp₂ sp₃ sp₄ : Space} {s₁ s₂ s₃ s₄ : Shape} {e₁ e₂ e₃ e₄ : EltTy} {m₁ : Memref sig .tc sp₁ s₁ e₁} {m₂ : Memref sig .tc sp₂ s₂ e₂}
    {m₃ : Memref sig .tc sp₃ s₃ e₃} {m₄ : Memref sig .tc sp₄ s₄ e₄}
    {h₁ : m₁.view.WordExact} {h₂ : m₂.view.WordExact} {h₃ : m₃.view.WordExact} {h₄ : m₄.view.WordExact}
    (hN₂ : m₂.view.dmaCredit = N) (hN₄ : m₄.view.dmaCredit = N)
    {oa : Fin 3 → ℕ} (hoa : oa = accOff r (back r (k.val + 1) c)) {ia1 ia2 ia3 : ∀ a, oa a + S1x512x1024.size a ≤ S2x2048x1024.size a}
    {ol : Fin 4 → ℕ} (hol : ol = recvOff r k) {il : ∀ a, ol a + S1x1x512x1024.size a ≤ S2x3x512x1024.size a}
    {la1 : accM.view.LoadsAt (Rect.unit (s := S2x2048x1024) oa S1x512x1024.size ia1).toLoadRect} {ll : recvM.view.LoadsAt (Rect.unit (s := S2x3x512x1024) ol S1x1x512x1024.size il).toLoadRect} {la2 : accM.view.LoadsAt (Rect.unit (s := S2x2048x1024) oa S1x512x1024.size ia2).toLoadRect}
    {w : Vec F S1x512x1024 .bf16 → Vec F S1x1x512x1024 .bf16 → Vec F S1x512x1024 .bf16} (hw : ∀ v v', w v v' = k0_pay6 v v')
    {hx : (accM.access (Rect.unit (s := S2x2048x1024) oa S1x512x1024.size ia3)).Stores Finset.univ} {hm : (Finset.univ : Finset (Rect.unit (s := S2x2048x1024) oa S1x512x1024.size ia3).shape.Idx) = Finset.univ ∨ ∀ a, (Rect.unit (s := S2x2048x1024) oa S1x512x1024.size ia3).stride a = 1}
    {n : Dev nD} (hn : n = fwd r c) {qs' qr' : DmaSem sig} (hqs' : qs' = sendS r h') (hqr' : qr' = recvS r h')
    {offs : Fin 3 → ℕ} (hoffs : offs = accOff r (back r k'.val c)) {inbs : ∀ a, offs a + S1x512x1024.size a ≤ S2x2048x1024.size a}
    {offd : Fin 4 → ℕ} (hoffd : offd = recvOff r k') {inbd : ∀ a, offd a + S1x1x512x1024.size a ≤ S2x3x512x1024.size a}
    {us : ∀ a, (Rect.unit (s := S2x2048x1024) offs S1x512x1024.size inbs).stride a = 1} {ud : ∀ a, (Rect.unit (s := S2x3x512x1024) offd S1x1x512x1024.size inbd).stride a = 1}
    {sqs : (Rect.unit (s := S2x2048x1024) offs S1x512x1024.size inbs).shape.Squeezes S512x1024} {sqd : (Rect.unit (s := S2x3x512x1024) offd S1x1x512x1024.size inbd).shape.Squeezes S512x1024}
    {hsc : ((recvM.slice (Rect.unit (s := S2x3x512x1024) offd S1x1x512x1024.size inbd) ud).squeeze S512x1024 sqd : Memref sig (Dev.tc n : Thread nD τ).2.kind .vmem S512x1024 .bf16).view.ref.isScScratch = false}
    {hsrc : ((accM.slice (Rect.unit (s := S2x2048x1024) offs S1x512x1024.size inbs) us).squeeze S512x1024 sqs).view.WordExact} {hdst : ((recvM.slice (Rect.unit (s := S2x3x512x1024) offd S1x1x512x1024.size inbd) ud).squeeze S512x1024 sqd).view.WordExact}
    {hsem : DmaTarget.Typed .vmem (.dma qr') (.remote (Dev.tc n : Thread nD τ) ((recvM.slice (Rect.unit (s := S2x3x512x1024) offd S1x1x512x1024.size inbd) ud).squeeze S512x1024 sqd) (.dma qs') hsc)}
    {kk : PUnit → Pg F α} :
    iprop(ctx P K ∗ toWait r h c ∗ toSend r h' c ∗ owing c O₀
        ∗ owns (c : Thread nD τ) (accB r (back r (k.val + 1) c)) fullShare (P r c (back r (k.val + 1) c))
        ∗ (∃ Y, owns (fwd r c : Thread nD τ) (recvB r k') fullShare Y))
      ⊢ iprop(((waited r h c ∗ toWait r h' c ∗ owing c O ∗ owns (c : Thread nD τ) (recvB r k) fullShare (partialSum P r k.val (bwd r c)))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 qs m₁ m₂ h₁ h₂) fun _ => .op (.waitDma2 qr m₃ m₄ h₃ h₄) fun _ => (.op (.load accM (Rect.unit (s := S2x2048x1024) oa S1x512x1024.size ia1).toLoadRect la1) fun v => .op (.load recvM (Rect.unit (s := S2x3x512x1024) ol S1x1x512x1024.size il).toLoadRect ll) fun v' =>
                .op (.load accM (Rect.unit (s := S2x2048x1024) oa S1x512x1024.size ia2).toLoadRect la2) fun _ => .op (.store accM (Rect.unit (s := S2x2048x1024) oa S1x512x1024.size ia3) (w v v') Finset.univ hx hm) fun _ => (.op (.enqueueDma ((accM.slice (Rect.unit (s := S2x2048x1024) offs S1x512x1024.size inbs) us).squeeze S512x1024 sqs)
                (.remote (Dev.tc n : Thread nD τ) ((recvM.slice (Rect.unit (s := S2x3x512x1024) offd S1x1x512x1024.size inbd) ud).squeeze S512x1024 sqd) (.dma qs') hsc) (.dma qr') hsrc hdst hsem) kk))) Q) := by
  iintro ⟨#Hctx, Hw, Hs, HO, Ha, Hd⟩ Hk
  iapply (wp_waits P K r h c hqs hqr hA hN₂ hN₄) $$ [Hw HO]
  · isplitr; · iexact Hctx
    isplitl [Hw] <;> iassumption
  rw [hh, recvPay_reduce]
  iintro ⟨Hdone, -, ⟨⟨Hl, Hca⟩, Hsrc⟩, HO⟩
  ihave Hca := (carry_reduce P r k.val (by omega) c) $$ [Hca Hsrc]
  · isplitl [Hca] <;> iassumption
  iapply (wp_accumulate P r k c hoa hol hw) $$ [Ha Hl]
  · isplitl [Ha] <;> iassumption
  iintro ⟨Ha, Hl⟩
  iapply (wp_send_reduce P K r k' h' hh' c hn hqs' hqr' O hO hoffs hoffd) $$ [Hs Ha Hd Hca HO]
  · isplitr; · iexact Hctx
    isplitl [Hs]; · iexact Hs
    rw [hkk]
    isplitl [Ha]; · iexact Ha
    isplitl [Hd]; · iexact Hd
    isplitl [Hca] <;> iassumption
  iintro ⟨Hw, HO⟩
  iapply Hk
  isplitl [Hdone]; · iexact Hdone
  isplitl [Hw]; · iexact Hw
  isplitl [HO] <;> iassumption

/-- Hop 2: the sum is complete; half a share of it goes on, the other half is read for the result. -/
theorem wp_hop_turn {α : Type} {Q : α → sProp 𝕄} (r : Fin 2) (k : Fin 3) (hk : k.val = 2) (h h' : Fin 6) (hh : h.val = 2) (hh' : h'.val = 3) (c : Dev nD)
    {O₀ : CellTallies nD τ sig Unit} (hA : Above (2 + h.val) O₀) (O : CellTallies nD τ sig Unit) (hO : O₀ = O + tallyAt (recvCell r h' (fwd r c)) () N)
    {qs qr : DmaSem sig} (hqs : qs = sendS r h) (hqr : qr = recvS r h)
    {sp₁ sp₂ sp₃ sp₄ : Space} {s₁ s₂ s₃ s₄ : Shape} {e₁ e₂ e₃ e₄ : EltTy} {m₁ : Memref sig .tc sp₁ s₁ e₁} {m₂ : Memref sig .tc sp₂ s₂ e₂}
    {m₃ : Memref sig .tc sp₃ s₃ e₃} {m₄ : Memref sig .tc sp₄ s₄ e₄}
    {h₁ : m₁.view.WordExact} {h₂ : m₂.view.WordExact} {h₃ : m₃.view.WordExact} {h₄ : m₄.view.WordExact}
    (hN₂ : m₂.view.dmaCredit = N) (hN₄ : m₄.view.dmaCredit = N)
    {oa : Fin 3 → ℕ} (hoa : oa = accOff r (back r (k.val + 1) c)) {ia1 ia2 ia3 : ∀ a, oa a + S1x512x1024.size a ≤ S2x2048x1024.size a}
    {ol : Fin 4 → ℕ} (hol : ol = recvOff r k) {il : ∀ a, ol a + S1x1x512x1024.size a ≤ S2x3x512x1024.size a}
    {la1 : accM.view.LoadsAt (Rect.unit (s := S2x2048x1024) oa S1x512x1024.size ia1).toLoadRect} {ll : recvM.view.LoadsAt (Rect.unit (s := S2x3x512x1024) ol S1x1x512x1024.size il).toLoadRect} {la2 : accM.view.LoadsAt (Rect.unit (s := S2x2048x1024) oa S1x512x1024.size ia2).toLoadRect}
    {w : Vec F S1x512x1024 .bf16 → Vec F S1x1x512x1024 .bf16 → Vec F S1x512x1024 .bf16} (hw : ∀ v v', w v v' = k0_pay6 v v')
    {hx : (accM.access (Rect.unit (s := S2x2048x1024) oa S1x512x1024.size ia3)).Stores Finset.univ} {hm : (Finset.univ : Finset (Rect.unit (s := S2x2048x1024) oa S1x512x1024.size ia3).shape.Idx) = Finset.univ ∨ ∀ a, (Rect.unit (s := S2x2048x1024) oa S1x512x1024.size ia3).stride a = 1}
    {n : Dev nD} (hn : n = fwd r c) {qs' qr' : DmaSem sig} (hqs' : qs' = sendS r h') (hqr' : qr' = recvS r h')
    {offs : Fin 3 → ℕ} (hoffs : offs = accOff r (back r h'.val c)) {inbs inbd : ∀ a, offs a + S1x512x1024.size a ≤ S2x2048x1024.size a}
    {us : ∀ a, (Rect.unit (s := S2x2048x1024) offs S1x512x1024.size inbs).stride a = 1} {ud : ∀ a, (Rect.unit (s := S2x2048x1024) offs S1x512x1024.size inbd).stride a = 1}
    {sqs : (Rect.unit (s := S2x2048x1024) offs S1x512x1024.size inbs).shape.Squeezes S512x1024} {sqd : (Rect.unit (s := S2x2048x1024) offs S1x512x1024.size inbd).shape.Squeezes S512x1024}
    {hsc : ((accM.slice (Rect.unit (s := S2x2048x1024) offs S1x512x1024.size inbd) ud).squeeze S512x1024 sqd : Memref sig (Dev.tc n : Thread nD τ).2.kind .vmem S512x1024 .bf16).view.ref.isScScratch = false}
    {hsrc : ((accM.slice (Rect.unit (s := S2x2048x1024) offs S1x512x1024.size inbs) us).squeeze S512x1024 sqs).view.WordExact} {hdst : ((accM.slice (Rect.unit (s := S2x2048x1024) offs S1x512x1024.size inbd) ud).squeeze S512x1024 sqd).view.WordExact}
    {hsem : DmaTarget.Typed .vmem (.dma qr') (.remote (Dev.tc n : Thread nD τ) ((accM.slice (Rect.unit (s := S2x2048x1024) offs S1x512x1024.size inbd) ud).squeeze S512x1024 sqd) (.dma qs') hsc)}
    {ob : Fin 3 → ℕ} (hob : ob = accOff r (back r 3 c)) {ib : ∀ a, ob a + S1x512x1024.size a ≤ S2x2048x1024.size a}
    {oo : Fin 2 → ℕ} (hoo : oo = outOff r (back r 3 c)) {io1 io2 : ∀ a, oo a + S512x1024.size a ≤ S2048x2048.size a}
    {lb : accM.view.LoadsAt (Rect.unit (s := S2x2048x1024) ob S1x512x1024.size ib).toLoadRect} {lo : outM.view.LoadsAt (Rect.unit (s := S2048x2048) oo S512x1024.size io1).toLoadRect}
    {w' : Vec F S1x512x1024 .bf16 → Vec F S512x1024 .f32} (hw' : ∀ v, w' v = k0_pay1 v)
    {hx' : (outM.access (Rect.unit (s := S2048x2048) oo S512x1024.size io2)).Stores Finset.univ} {hm' : (Finset.univ : Finset (Rect.unit (s := S2048x2048) oo S512x1024.size io2).shape.Idx) = Finset.univ ∨ ∀ a, (Rect.unit (s := S2048x2048) oo S512x1024.size io2).stride a = 1}
    {kk : PUnit → Pg F α} :
    iprop(ctx P K ∗ toWait r h c ∗ toSend r h' c ∗ owing c O₀
        ∗ owns (c : Thread nD τ) (accB r (back r 3 c)) fullShare (P r c (back r 3 c)) ∗ (∃ Y, owns (c : Thread nD τ) (outB r (back r 3 c)) fullShare Y))
      ⊢ iprop(((waited r h c ∗ toWait r h' c ∗ owing c O ∗ owns (c : Thread nD τ) (recvB r k) fullShare (partialSum P r 2 (bwd r c))
              ∗ owns (c : Thread nD τ) (accB r (back r 3 c)) fullShare.right (total P r (back r 3 c))
              ∗ owns (c : Thread nD τ) (outB r (back r 3 c)) fullShare (reluBlk (total P r (back r 3 c))))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 qs m₁ m₂ h₁ h₂) fun _ => .op (.waitDma2 qr m₃ m₄ h₃ h₄) fun _ => (.op (.load accM (Rect.unit (s := S2x2048x1024) oa S1x512x1024.size ia1).toLoadRect la1) fun v => .op (.load recvM (Rect.unit (s := S2x3x512x1024) ol S1x1x512x1024.size il).toLoadRect ll) fun v' =>
                .op (.load accM (Rect.unit (s := S2x2048x1024) oa S1x512x1024.size ia2).toLoadRect la2) fun _ => .op (.store accM (Rect.unit (s := S2x2048x1024) oa S1x512x1024.size ia3) (w v v') Finset.univ hx hm) fun _ => (.op (.enqueueDma ((accM.slice (Rect.unit (s := S2x2048x1024) offs S1x512x1024.size inbs) us).squeeze S512x1024 sqs)
                (.remote (Dev.tc n : Thread nD τ) ((accM.slice (Rect.unit (s := S2x2048x1024) offs S1x512x1024.size inbd) ud).squeeze S512x1024 sqd) (.dma qs') hsc) (.dma qr') hsrc hdst hsem) fun _ => (.op (.load accM (Rect.unit (s := S2x2048x1024) ob S1x512x1024.size ib).toLoadRect lb) fun v => .op (.load outM (Rect.unit (s := S2048x2048) oo S512x1024.size io1).toLoadRect lo) fun _ =>
                .op (.store outM (Rect.unit (s := S2048x2048) oo S512x1024.size io2) (w' v) Finset.univ hx' hm') kk)))) Q) := by
  obtain rfl : k = 2 := Fin.ext hk
  iintro ⟨#Hctx, Hw, Hs, HO, Ha, Hout⟩ Hk
  iapply (wp_waits P K r h c hqs hqr hA hN₂ hN₄) $$ [Hw HO]
  · isplitr; · iexact Hctx
    isplitl [Hw] <;> iassumption
  rw [hh, show recvPay P r 2 (bwd r c) = _ from recvPay_reduce P r 2 c]
  iintro ⟨Hdone, -, ⟨⟨Hl, Hca⟩, Hsrc⟩, HO⟩
  ihave Hca := (carry_turn P r c) $$ [Hca Hsrc]
  · isplitl [Hca]; · iexact Hca
    iexact Hsrc
  icases Hca with ⟨Hd, Hca⟩
  iapply (wp_accumulate P r 2 c hoa hol hw) $$ [Ha Hl]
  · isplitl [Ha]; · iexact Ha
    iexact Hl
  iintro ⟨Ha, Hl⟩
  ihave Ha := (show src P r ((2 : Fin 3).val + 1) c ⊢ owns (c : Thread nD τ) (accB r (back r 3 c)) fullShare (total P r (back r 3 c)) from by
    rw [total_back_three]; exact .rfl) $$ Ha
  ihave Ha := (owns_halves (c : Thread nD τ) (accB r (back r 3 c)) fullShare (total P r (back r 3 c))).1 $$ Ha
  icases Ha with ⟨Hal, Har⟩
  iapply (wp_send_gather P K r h' (by omega) c hn hqs' hqr' O hO hoffs) $$ [Hs Hal Hd Hca HO]
  · isplitr; · iexact Hctx
    isplitl [Hs]; · iexact Hs
    rw [hh']
    isplitl [Hal]; · iexact Hal
    isplitl [Hd]; · iexact Hd
    isplitl [Hca] <;> iassumption
  iintro ⟨Hw, HO⟩
  iapply (wp_relu r (back r 3 c) c hob hoo hw') $$ [Har Hout]
  · isplitl [Har] <;> iassumption
  iintro ⟨Har, Hout⟩
  iapply Hk
  isplitl [Hdone]; · iexact Hdone
  isplitl [Hw]; · iexact Hw
  isplitl [HO]; · iexact HO
  isplitl [Hl]; · iexact Hl
  isplitl [Har] <;> iassumption

/-- Hops 3 and 4: the lent half comes back, the complete block that came in goes on and is stored. -/
theorem wp_hop_gather {α : Type} {Q : α → sProp 𝕄} (r : Fin 2) (h h' : Fin 6) (hh : h.val = 3 ∨ h.val = 4) (hh' : h'.val = h.val + 1) (c : Dev nD)
    {O₀ : CellTallies nD τ sig Unit} (hA : Above (2 + h.val) O₀) (O : CellTallies nD τ sig Unit) (hO : O₀ = O + tallyAt (recvCell r h' (fwd r c)) () N)
    {qs qr : DmaSem sig} (hqs : qs = sendS r h) (hqr : qr = recvS r h)
    {sp₁ sp₂ sp₃ sp₄ : Space} {s₁ s₂ s₃ s₄ : Shape} {e₁ e₂ e₃ e₄ : EltTy} {m₁ : Memref sig .tc sp₁ s₁ e₁} {m₂ : Memref sig .tc sp₂ s₂ e₂}
    {m₃ : Memref sig .tc sp₃ s₃ e₃} {m₄ : Memref sig .tc sp₄ s₄ e₄}
    {h₁ : m₁.view.WordExact} {h₂ : m₂.view.WordExact} {h₃ : m₃.view.WordExact} {h₄ : m₄.view.WordExact}
    (hN₂ : m₂.view.dmaCredit = N) (hN₄ : m₄.view.dmaCredit = N)
    {n : Dev nD} (hn : n = fwd r c) {qs' qr' : DmaSem sig} (hqs' : qs' = sendS r h') (hqr' : qr' = recvS r h')
    {offs : Fin 3 → ℕ} (hoffs : offs = accOff r (back r h'.val c)) {inbs inbd : ∀ a, offs a + S1x512x1024.size a ≤ S2x2048x1024.size a}
    {us : ∀ a, (Rect.unit (s := S2x2048x1024) offs S1x512x1024.size inbs).stride a = 1} {ud : ∀ a, (Rect.unit (s := S2x2048x1024) offs S1x512x1024.size inbd).stride a = 1}
    {sqs : (Rect.unit (s := S2x2048x1024) offs S1x512x1024.size inbs).shape.Squeezes S512x1024} {sqd : (Rect.unit (s := S2x2048x1024) offs S1x512x1024.size inbd).shape.Squeezes S512x1024}
    {hsc : ((accM.slice (Rect.unit (s := S2x2048x1024) offs S1x512x1024.size inbd) ud).squeeze S512x1024 sqd : Memref sig (Dev.tc n : Thread nD τ).2.kind .vmem S512x1024 .bf16).view.ref.isScScratch = false}
    {hsrc : ((accM.slice (Rect.unit (s := S2x2048x1024) offs S1x512x1024.size inbs) us).squeeze S512x1024 sqs).view.WordExact} {hdst : ((accM.slice (Rect.unit (s := S2x2048x1024) offs S1x512x1024.size inbd) ud).squeeze S512x1024 sqd).view.WordExact}
    {hsem : DmaTarget.Typed .vmem (.dma qr') (.remote (Dev.tc n : Thread nD τ) ((accM.slice (Rect.unit (s := S2x2048x1024) offs S1x512x1024.size inbd) ud).squeeze S512x1024 sqd) (.dma qs') hsc)}
    {ob : Fin 3 → ℕ} (hob : ob = accOff r (back r h'.val c)) {ib : ∀ a, ob a + S1x512x1024.size a ≤ S2x2048x1024.size a}
    {oo : Fin 2 → ℕ} (hoo : oo = outOff r (back r h'.val c)) {io1 io2 : ∀ a, oo a + S512x1024.size a ≤ S2048x2048.size a}
    {lb : accM.view.LoadsAt (Rect.unit (s := S2x2048x1024) ob S1x512x1024.size ib).toLoadRect} {lo : outM.view.LoadsAt (Rect.unit (s := S2048x2048) oo S512x1024.size io1).toLoadRect}
    {w' : Vec F S1x512x1024 .bf16 → Vec F S512x1024 .f32} (hw' : ∀ v, w' v = k0_pay1 v)
    {hx' : (outM.access (Rect.unit (s := S2048x2048) oo S512x1024.size io2)).Stores Finset.univ} {hm' : (Finset.univ : Finset (Rect.unit (s := S2048x2048) oo S512x1024.size io2).shape.Idx) = Finset.univ ∨ ∀ a, (Rect.unit (s := S2048x2048) oo S512x1024.size io2).stride a = 1}
    {kk : PUnit → Pg F α} :
    iprop(ctx P K ∗ toWait r h c ∗ toSend r h' c ∗ owing c O₀
        ∗ owns (c : Thread nD τ) (accB r (back r h.val c)) fullShare.right (total P r (back r h.val c)) ∗ (∃ Y, owns (c : Thread nD τ) (outB r (back r h'.val c)) fullShare Y))
      ⊢ iprop(((waited r h c ∗ toWait r h' c ∗ owing c O ∗ owns (c : Thread nD τ) (accB r (back r h.val c)) fullShare (total P r (back r h.val c))
              ∗ owns (c : Thread nD τ) (accB r (back r h'.val c)) fullShare.right (total P r (back r h'.val c))
              ∗ owns (c : Thread nD τ) (outB r (back r h'.val c)) fullShare (reluBlk (total P r (back r h'.val c))))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 qs m₁ m₂ h₁ h₂) fun _ => .op (.waitDma2 qr m₃ m₄ h₃ h₄) fun _ => (.op (.enqueueDma ((accM.slice (Rect.unit (s := S2x2048x1024) offs S1x512x1024.size inbs) us).squeeze S512x1024 sqs)
                (.remote (Dev.tc n : Thread nD τ) ((accM.slice (Rect.unit (s := S2x2048x1024) offs S1x512x1024.size inbd) ud).squeeze S512x1024 sqd) (.dma qs') hsc) (.dma qr') hsrc hdst hsem) fun _ => (.op (.load accM (Rect.unit (s := S2x2048x1024) ob S1x512x1024.size ib).toLoadRect lb) fun v => .op (.load outM (Rect.unit (s := S2048x2048) oo S512x1024.size io1).toLoadRect lo) fun _ =>
                .op (.store outM (Rect.unit (s := S2048x2048) oo S512x1024.size io2) (w' v) Finset.univ hx' hm') kk))) Q) := by
  iintro ⟨#Hctx, Hw, Hs, HO, Har, Hout⟩ Hk
  iapply (wp_waits P K r h c hqs hqr hA hN₂ hN₄) $$ [Hw HO]
  · isplitr; · iexact Hctx
    isplitl [Hw] <;> iassumption
  rw [recvPay_gather P r h.val (by omega), ← hh']
  unfold sendPay
  rw [if_neg (by omega)]
  iintro ⟨Hdone, Hal, ⟨Hb, Hca⟩, HO⟩
  ihave Ha := (owns_halves (c : Thread nD τ) (accB r (back r h.val c)) fullShare (total P r (back r h.val c))).2 $$ [Hal Har]
  · isplitl [Hal] <;> iassumption
  ihave Hca := (carry_gather P r h.val hh c) $$ Hca
  rw [← hh']
  icases Hca with ⟨Hd, Hca⟩
  ihave Hb := (owns_halves (c : Thread nD τ) (accB r (back r h'.val c)) fullShare (total P r (back r h'.val c))).1 $$ Hb
  icases Hb with ⟨Hbl, Hbr⟩
  iapply (wp_send_gather P K r h' (by omega) c hn hqs' hqr' O hO hoffs) $$ [Hs Hbl Hd Hca HO]
  · isplitr; · iexact Hctx
    isplitl [Hs]; · iexact Hs
    isplitl [Hbl]; · iexact Hbl
    isplitl [Hd]; · iexact Hd
    isplitl [Hca] <;> iassumption
  iintro ⟨Hw, HO⟩
  iapply (wp_relu r (back r h'.val c) c hob hoo hw') $$ [Hbr Hout]
  · isplitl [Hbr] <;> iassumption
  iintro ⟨Hbr, Hout⟩
  iapply Hk
  isplitl [Hdone]; · iexact Hdone
  isplitl [Hw]; · iexact Hw
  isplitl [HO]; · iexact HO
  isplitl [Ha]; · iexact Ha
  isplitl [Hbr] <;> iassumption

/-- Hop 5: the last block comes in and is stored. -/
theorem wp_hop_last {α : Type} {Q : α → sProp 𝕄} (r : Fin 2) (h : Fin 6) (hh : h.val = 5) (c : Dev nD)
    {O₀ : CellTallies nD τ sig Unit} (hA : Above (2 + h.val) O₀)
    {qs qr : DmaSem sig} (hqs : qs = sendS r h) (hqr : qr = recvS r h)
    {sp₁ sp₂ sp₃ sp₄ : Space} {s₁ s₂ s₃ s₄ : Shape} {e₁ e₂ e₃ e₄ : EltTy} {m₁ : Memref sig .tc sp₁ s₁ e₁} {m₂ : Memref sig .tc sp₂ s₂ e₂}
    {m₃ : Memref sig .tc sp₃ s₃ e₃} {m₄ : Memref sig .tc sp₄ s₄ e₄}
    {h₁ : m₁.view.WordExact} {h₂ : m₂.view.WordExact} {h₃ : m₃.view.WordExact} {h₄ : m₄.view.WordExact}
    (hN₂ : m₂.view.dmaCredit = N) (hN₄ : m₄.view.dmaCredit = N)
    {ob : Fin 3 → ℕ} (hob : ob = accOff r (back r 6 c)) {ib : ∀ a, ob a + S1x512x1024.size a ≤ S2x2048x1024.size a}
    {oo : Fin 2 → ℕ} (hoo : oo = outOff r (back r 6 c)) {io1 io2 : ∀ a, oo a + S512x1024.size a ≤ S2048x2048.size a}
    {lb : accM.view.LoadsAt (Rect.unit (s := S2x2048x1024) ob S1x512x1024.size ib).toLoadRect} {lo : outM.view.LoadsAt (Rect.unit (s := S2048x2048) oo S512x1024.size io1).toLoadRect}
    {w' : Vec F S1x512x1024 .bf16 → Vec F S512x1024 .f32} (hw' : ∀ v, w' v = k0_pay1 v)
    {hx' : (outM.access (Rect.unit (s := S2048x2048) oo S512x1024.size io2)).Stores Finset.univ} {hm' : (Finset.univ : Finset (Rect.unit (s := S2048x2048) oo S512x1024.size io2).shape.Idx) = Finset.univ ∨ ∀ a, (Rect.unit (s := S2048x2048) oo S512x1024.size io2).stride a = 1}
    {kk : PUnit → Pg F α} :
    iprop(ctx P K ∗ toWait r h c ∗ owing c O₀
        ∗ owns (c : Thread nD τ) (accB r (back r 5 c)) fullShare.right (total P r (back r 5 c)) ∗ (∃ Y, owns (c : Thread nD τ) (outB r (back r 6 c)) fullShare Y))
      ⊢ iprop(((waited r h c ∗ owing c O₀ ∗ owns (c : Thread nD τ) (accB r (back r 5 c)) fullShare (total P r (back r 5 c))
              ∗ owns (c : Thread nD τ) (accB r (back r 6 c)) fullShare (total P r (back r 6 c))
              ∗ owns (c : Thread nD τ) (outB r (back r 6 c)) fullShare (reluBlk (total P r (back r 6 c))))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 qs m₁ m₂ h₁ h₂) fun _ => .op (.waitDma2 qr m₃ m₄ h₃ h₄) fun _ => (.op (.load accM (Rect.unit (s := S2x2048x1024) ob S1x512x1024.size ib).toLoadRect lb) fun v => .op (.load outM (Rect.unit (s := S2048x2048) oo S512x1024.size io1).toLoadRect lo) fun _ =>
                .op (.store outM (Rect.unit (s := S2048x2048) oo S512x1024.size io2) (w' v) Finset.univ hx' hm') kk)) Q) := by
  iintro ⟨#Hctx, Hw, HO, Har, Hout⟩ Hk
  iapply (wp_waits P K r h c hqs hqr hA hN₂ hN₄) $$ [Hw HO]
  · isplitr; · iexact Hctx
    isplitl [Hw] <;> iassumption
  rw [recvPay_gather P r h.val (by omega), hh]
  unfold sendPay
  rw [if_neg (by omega)]
  iintro ⟨Hdone, Hal, ⟨Hb, -⟩, HO⟩
  ihave Ha := (owns_halves (c : Thread nD τ) (accB r (back r 5 c)) fullShare (total P r (back r 5 c))).2 $$ [Hal Har]
  · isplitl [Hal] <;> iassumption
  iapply (wp_relu r (back r 6 c) c hob hoo hw') $$ [Hb Hout]
  · isplitl [Hb] <;> iassumption
  iintro ⟨Hb, Hout⟩
  iapply Hk
  isplitl [Hdone]; · iexact Hdone
  isplitl [HO]; · iexact HO
  isplitl [Ha]; · iexact Ha
  isplitl [Hb] <;> iassumption

end Hops

end Cert.AllReduce
-- ==== Proof.Buffers.lean ====
/-
# The buffers in pieces

The accumulator, the landing buffer and the result are each the union of their pieces, which no two share: how each
buffer is cut into them and put together again.
-/
module

public import proofs.«01_k».proof.Proof.Hops
public import Idealize.ShloMosaic.Lib.Pipeline.ValueKit.Geometry

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- An element of every type. -/
instance elt_nonempty (e : EltTy) : Nonempty (Elt F e) := by
  cases e <;> first | exact ⟨0#_⟩ | exact ⟨FloatOps.ofBits (F := F) _ 0#_⟩

/-! ## Parts of an array -/

theorem ent_eq {P Q : sProp 𝕄} (h : P = Q) : P ⊢ Q := BIBase.Entails.of_eq h

theorem rect_emb_mem {s : Shape} (r : Rect s) (j : r.shape.Idx) : r.emb j ∈ r.set := by
  rw [← Rect.map_emb_univ]; exact Finset.mem_map_of_mem _ (Finset.mem_univ _)

/-- Parts given on a family of rectangles that cover an array, no two overlapping, are the parts of one array. -/
theorem glue {s : Shape} {T : Type} [Fintype T] {β : Type} (r : T → Rect s)
    (hd : ∀ t t', t ≠ t' → Disjoint (r t).set (r t').set)
    (hcov : (Finset.univ : Finset T).biUnion (fun t => (r t).set) = Finset.univ) (X : (t : T) → (r t).shape.Idx → β) :
    ∃ Y : s.Idx → β, ∀ t j, Y ((r t).emb j) = X t j := by
  have hex : ∀ x : s.Idx, ∃ t, ∃ j, (r t).emb j = x := by
    intro x
    obtain ⟨t, -, hx⟩ := Finset.mem_biUnion.mp (hcov.symm ▸ Finset.mem_univ x)
    rw [← Rect.map_emb_univ, Finset.mem_map] at hx
    obtain ⟨j, -, rfl⟩ := hx
    exact ⟨t, j, rfl⟩
  choose tt jj hx using hex
  refine ⟨fun x => X (tt x) (jj x), fun t j => ?_⟩
  have ht : tt ((r t).emb j) = t := by
    by_contra hne
    refine Finset.disjoint_left.mp (hd _ _ hne) ?_ (rect_emb_mem (r t) j)
    have := rect_emb_mem (r (tt ((r t).emb j))) (jj ((r t).emb j))
    rwa [hx] at this
  have key : ∀ t', t' = t → ∀ j' : (r t').shape.Idx, (r t').emb j' = (r t).emb j → X t' j' = X t j := by
    rintro t' rfl j' hj
    rw [(r t').emb.injective hj]
  exact key _ ht _ (hx _)

/-- A buffer that is owned whole is owned part by part, at some contents, -/
theorem cut_some (c : Thread nD τ) {sp : Space} {sh : Shape} {e : EltTy} (m : Memref sig c.2.kind sp sh e) {T : Type} [Fintype T] [DecidableEq T] (r : T → Rect sh)
    (hr : ∀ t a, (r t).stride a = 1) (hd : ∀ t t', t ≠ t' → Disjoint (r t).set (r t').set)
    (hcov : (Finset.univ : Finset T).biUnion (fun t => (r t).set) = Finset.univ) (X : sh.Idx → Elt F e) :
    (owns c m fullShare X : sProp 𝕄) ⊢ BI.bigSep Finset.univ fun t => iprop(∃ Y, owns c (m.slice (r t) (hr t)) fullShare Y) :=
  BIBase.Entails.trans (owns_rects c m fullShare r hr hd hcov X)
    (BI.bigSep_mono fun t _ => show _ ⊢ iprop(∃ Y, owns c (m.slice (r t) (hr t)) fullShare Y) from by iintro H; iexists _; iexact H)

/-- and put together again. -/
theorem join_parts (c : Thread nD τ) {sp : Space} {sh : Shape} {e : EltTy} (m : Memref sig c.2.kind sp sh e) {T : Type} [Fintype T] [DecidableEq T] (r : T → Rect sh)
    (hr : ∀ t a, (r t).stride a = 1) (hd : ∀ t t', t ≠ t' → Disjoint (r t).set (r t').set)
    (hcov : (Finset.univ : Finset T).biUnion (fun t => (r t).set) = Finset.univ) (X : (t : T) → (r t).shape.Idx → Elt F e) :
    BI.bigSep Finset.univ (fun t => owns c (m.slice (r t) (hr t)) fullShare (X t))
      ⊢ (iprop(∃ Y, ⌜∀ t j, Y ((r t).emb j) = X t j⌝ ∗ owns c m fullShare Y) : sProp 𝕄) := by
  obtain ⟨Y, hY⟩ := glue r hd hcov X
  iintro H
  iexists Y
  isplitr
  · ipureintro; exact hY
  iapply (BIBase.Entails.trans (BI.bigSep_mono fun t _ => by
    rw [show X t = fun j => Y ((r t).emb j) from funext fun j => (hY t j).symm]
    exact ent_eq rfl) (owns_of_rects c m fullShare r hr hd hcov Y)) $$ H

/-- Four things, one for each row block, in the order in which the blocks pass device `c`, from the one `k` hops back. -/
theorem four (r : Fin 2) (k : ℕ) (c : Dev nD) (Φ : Dev nD → sProp 𝕄) :
    (BI.bigSep Finset.univ Φ : sProp 𝕄) = iprop(Φ (back r k c) ∗ Φ (back r (k + 1) c) ∗ Φ (back r (k + 2) c) ∗ Φ (back r (k + 3) c)) := by
  rw [bigSep_univ_equiv (order r (back r k c)) Φ, show (Finset.univ : Finset (Fin 4)) = {0, 1, 2, 3} from by decide,
    bigSep_insert (by decide), bigSep_insert (by decide), bigSep_insert (by decide), bigSep_singleton]
  have hb : ∀ j : Fin 4, order r (back r k c) j = back r (k + j.val) c := fun j => by
    rw [Nat.add_comm]; exact back_back r j.val k c
  rw [hb 0, hb 1, hb 2, hb 3]
  rfl

/-- A piece is its slice at its own shape. -/
theorem owns_accB (c : Dev nD) (r : Fin 2) (i : Dev nD) (T : Blk F) :
    (owns (c : Thread nD τ) (accB r i) fullShare T : sProp 𝕄)
      = owns (c : Thread nD τ) (accM.slice (accR r i) (fun _ => rfl)) fullShare (shapeCast S1x512x1024 T shapeCasts_S512x1024_S1x512x1024 : Vec F S1x512x1024 .bf16) := by
  rw [← owns_squeeze (c : Thread nD τ) (accM.slice (accR r i) (fun _ => rfl)) squeezes_S1x512x1024_S512x1024]
  exact congrArg (fun X => owns (c : Thread nD τ) (accB r i) fullShare X) (shapeCast_shapeCast _ _ _).symm
theorem owns_recvB (c : Dev nD) (r : Fin 2) (k : Fin 3) (T : Blk F) :
    (owns (c : Thread nD τ) (recvB r k) fullShare T : sProp 𝕄)
      = owns (c : Thread nD τ) (recvM.slice (recvR r k) (fun _ => rfl)) fullShare (shapeCast S1x1x512x1024 T (by decide) : Vec F S1x1x512x1024 .bf16) := by
  rw [← owns_squeeze (c : Thread nD τ) (recvM.slice (recvR r k) (fun _ => rfl)) squeezes_S1x1x512x1024_S512x1024]
  exact congrArg (fun X => owns (c : Thread nD τ) (recvB r k) fullShare X) (shapeCast_shapeCast _ _ _).symm

theorem three (Φ : Fin 3 → sProp 𝕄) : (BI.bigSep Finset.univ Φ : sProp 𝕄) = iprop(Φ 0 ∗ Φ 1 ∗ Φ 2) := by
  rw [show (Finset.univ : Finset (Fin 3)) = {0, 1, 2} from by decide, bigSep_insert (by decide), bigSep_insert (by decide), bigSep_singleton]
  rfl

/-! ## The families of pieces -/

theorem accR_disjoint (t t' : Fin 2 × Dev nD) (h : t ≠ t') : Disjoint (accR t.1 t.2).set (accR t'.1 t'.2).set := by
  obtain ⟨r, i⟩ := t; obtain ⟨r', i'⟩ := t'
  by_cases hr : r = r'
  · subst hr
    have hi : i.val ≠ i'.val := fun hi => h (by rw [Fin.ext hi])
    refine Rect.unit_disjoint (1 : Fin 3) ?_
    show 512 * i.val + 512 ≤ 512 * i'.val ∨ 512 * i'.val + 512 ≤ 512 * i.val
    omega
  · have hr : r.val ≠ r'.val := fun hr' => hr (Fin.ext hr')
    refine Rect.unit_disjoint (0 : Fin 3) ?_
    show r.val + 1 ≤ r'.val ∨ r'.val + 1 ≤ r.val
    omega

theorem outR_disjoint (t t' : Fin 2 × Dev nD) (h : t ≠ t') : Disjoint (outR t.1 t.2).set (outR t'.1 t'.2).set := by
  obtain ⟨r, i⟩ := t; obtain ⟨r', i'⟩ := t'
  by_cases hr : r = r'
  · subst hr
    have hi : i.val ≠ i'.val := fun hi => h (by rw [Fin.ext hi])
    refine Rect.unit_disjoint (0 : Fin 2) ?_
    show 512 * i.val + 512 ≤ 512 * i'.val ∨ 512 * i'.val + 512 ≤ 512 * i.val
    omega
  · have hr : r.val ≠ r'.val := fun hr' => hr (Fin.ext hr')
    refine Rect.unit_disjoint (1 : Fin 2) ?_
    show 1024 * r.val + 1024 ≤ 1024 * r'.val ∨ 1024 * r'.val + 1024 ≤ 1024 * r.val
    omega

theorem recvR_disjoint (t t' : Fin 2 × Fin 3) (h : t ≠ t') : Disjoint (recvR t.1 t.2).set (recvR t'.1 t'.2).set := by
  obtain ⟨r, k⟩ := t; obtain ⟨r', k'⟩ := t'
  by_cases hr : r = r'
  · subst hr
    have hk : k.val ≠ k'.val := fun hk => h (by rw [Fin.ext hk])
    refine Rect.unit_disjoint (1 : Fin 4) ?_
    show k.val + 1 ≤ k'.val ∨ k'.val + 1 ≤ k.val
    omega
  · have hr : r.val ≠ r'.val := fun hr' => hr (Fin.ext hr')
    refine Rect.unit_disjoint (0 : Fin 4) ?_
    show r.val + 1 ≤ r'.val ∨ r'.val + 1 ≤ r.val
    omega

/-- A family of rectangles covers an array where every index lies in one of them. -/
theorem covers {s : Shape} {T : Type} [Fintype T] (r : T → Rect s) (h : ∀ x, ∃ t, x ∈ (r t).set) :
    (Finset.univ : Finset T).biUnion (fun t => (r t).set) = Finset.univ :=
  Finset.eq_univ_of_forall fun x => by
    obtain ⟨t, ht⟩ := h x
    exact Finset.mem_biUnion.mpr ⟨t, Finset.mem_univ _, ht⟩

theorem accR_cover : (Finset.univ : Finset (Fin 2 × Dev nD)).biUnion (fun t => (accR t.1 t.2).set) = Finset.univ := by
  refine covers (fun t : Fin 2 × Dev nD => accR t.1 t.2) fun x => ?_
  have h0 : (x 0).val < 2 := (x 0).isLt
  have h1 : (x 1).val < 2048 := (x 1).isLt
  have h2 : (x 2).val < 1024 := (x 2).isLt
  refine ⟨(⟨(x 0).val, h0⟩, ⟨(x 1).val / 512, by show _ < 4; omega⟩), Rect.mem_set_unit.mpr fun a => ?_⟩
  match a with
  | ⟨0, _⟩ => show (x 0).val ≤ (x 0).val ∧ (x 0).val < (x 0).val + 1; omega
  | ⟨1, _⟩ => show 512 * ((x 1).val / 512) ≤ (x 1).val ∧ (x 1).val < 512 * ((x 1).val / 512) + 512; omega
  | ⟨2, _⟩ => show 0 ≤ (x 2).val ∧ (x 2).val < 0 + 1024; omega

theorem outR_cover : (Finset.univ : Finset (Fin 2 × Dev nD)).biUnion (fun t => (outR t.1 t.2).set) = Finset.univ := by
  refine covers (fun t : Fin 2 × Dev nD => outR t.1 t.2) fun x => ?_
  have h0 : (x 0).val < 2048 := (x 0).isLt
  have h1 : (x 1).val < 2048 := (x 1).isLt
  refine ⟨(⟨(x 1).val / 1024, by omega⟩, ⟨(x 0).val / 512, by show _ < 4; omega⟩), Rect.mem_set_unit.mpr fun a => ?_⟩
  match a with
  | ⟨0, _⟩ => show 512 * ((x 0).val / 512) ≤ (x 0).val ∧ (x 0).val < 512 * ((x 0).val / 512) + 512; omega
  | ⟨1, _⟩ => show 1024 * ((x 1).val / 1024) ≤ (x 1).val ∧ (x 1).val < 1024 * ((x 1).val / 1024) + 1024; omega

theorem recvR_cover : (Finset.univ : Finset (Fin 2 × Fin 3)).biUnion (fun t => (recvR t.1 t.2).set) = Finset.univ := by
  refine covers (fun t : Fin 2 × Fin 3 => recvR t.1 t.2) fun x => ?_
  have h0 : (x 0).val < 2 := (x 0).isLt
  have h1 : (x 1).val < 3 := (x 1).isLt
  have h2 : (x 2).val < 512 := (x 2).isLt
  have h3 : (x 3).val < 1024 := (x 3).isLt
  refine ⟨(⟨(x 0).val, h0⟩, ⟨(x 1).val, h1⟩), Rect.mem_set_unit.mpr fun a => ?_⟩
  match a with
  | ⟨0, _⟩ => show (x 0).val ≤ (x 0).val ∧ (x 0).val < (x 0).val + 1; omega
  | ⟨1, _⟩ => show (x 1).val ≤ (x 1).val ∧ (x 1).val < (x 1).val + 1; omega
  | ⟨2, _⟩ => show 0 ≤ (x 2).val ∧ (x 2).val < 0 + 512; omega
  | ⟨3, _⟩ => show 0 ≤ (x 3).val ∧ (x 3).val < 0 + 1024; omega

/-- The two column halves of the product, as the kernel stores them in the accumulator. -/
theorem halfOff_inb (r : Fin 2) : ∀ a, (![r.val, 0, 0] : Fin 3 → ℕ) a + S1x2048x1024.size a ≤ S2x2048x1024.size a := by revert r; decide
abbrev halfR (r : Fin 2) : Rect S2x2048x1024 := Rect.unit (s := S2x2048x1024) ![r.val, 0, 0] S1x2048x1024.size (halfOff_inb r)

theorem halfR_disjoint (r r' : Fin 2) (h : r ≠ r') : Disjoint (halfR r).set (halfR r').set := by
  have hr : r.val ≠ r'.val := fun hr' => h (Fin.ext hr')
  refine Rect.unit_disjoint (0 : Fin 3) ?_
  show r.val + 1 ≤ r'.val ∨ r'.val + 1 ≤ r.val
  omega

theorem halfR_cover : (Finset.univ : Finset (Fin 2)).biUnion (fun r => (halfR r).set) = Finset.univ := by
  refine covers halfR fun x => ?_
  have h0 : (x 0).val < 2 := (x 0).isLt
  have h1 : (x 1).val < 2048 := (x 1).isLt
  have h2 : (x 2).val < 1024 := (x 2).isLt
  refine ⟨⟨(x 0).val, h0⟩, Rect.mem_set_unit.mpr fun a => ?_⟩
  match a with
  | ⟨0, _⟩ => show (x 0).val ≤ (x 0).val ∧ (x 0).val < (x 0).val + 1; omega
  | ⟨1, _⟩ => show 0 ≤ (x 1).val ∧ (x 1).val < 0 + 2048; omega
  | ⟨2, _⟩ => show 0 ≤ (x 2).val ∧ (x 2).val < 0 + 1024; omega

/-! ## The accumulator -/

/-- Where entry `j` of row block `i` lies in one half of the product. -/
def rowIdx (i : Dev nD) (j : S1x512x1024.Idx) : S1x2048x1024.Idx
  | ⟨0, _⟩ => ⟨0, Nat.one_pos⟩
  | ⟨1, _⟩ => ⟨512 * i.val + (j 1).val, by have h : i.val < 4 := i.isLt; have hj : (j 1).val < 512 := (j 1).isLt; show _ < 2048; omega⟩
  | ⟨2, _⟩ => ⟨(j 2).val, (j 2).isLt⟩

/-- Row block `i` of one half of a product. -/
def rows (A : Vec F S1x2048x1024 .bf16) (i : Dev nD) : Blk F :=
  shapeCast S512x1024 (fun j => A (rowIdx i j) : Vec F S1x512x1024 .bf16) shapeCasts_S1x512x1024_S512x1024

theorem halfR_rowIdx (r : Fin 2) (i : Dev nD) (j : S1x512x1024.Idx) : (halfR r).emb (rowIdx i j) = (accR r i).emb j := by
  funext a
  refine Fin.ext ?_
  rw [ValueKit.rect_emb_unit_val, ValueKit.rect_emb_unit_val]
  have hz : (j 0).val < 1 := (j 0).isLt
  match a with
  | ⟨0, _⟩ => show r.val + 0 = r.val + (j 0).val; omega
  | ⟨1, _⟩ => show 0 + (512 * i.val + (j 1).val) = 512 * i.val + (j 1).val; omega
  | ⟨2, _⟩ => show 0 + (j 2).val = 0 + (j 2).val; rfl

/-- The accumulator cut into the two halves the products are stored in. -/
theorem acc_halves (c : Dev nD) (f : Buf (Elt F) ((c : Thread nD τ).loc cc0_scratch0)) :
    iprop((c : Thread nD τ).loc cc0_scratch0 ↦{fullShare} f)
      ⊢ (iprop((∃ Y, owns (c : Thread nD τ) (accM.slice (halfR 0) (fun _ => rfl)) fullShare Y) ∗ ∃ Y, owns (c : Thread nD τ) (accM.slice (halfR 1) (fun _ => rfl)) fullShare Y) : sProp 𝕄) := by
  rw [← owns_whole]
  refine BIBase.Entails.trans (cut_some (c : Thread nD τ) accM halfR (fun _ _ => rfl) halfR_disjoint halfR_cover f) ?_
  rw [bigSep_univ_two]

/-- After the two stores it is owned row block by row block, in the order in which they pass. -/
theorem acc_rows (c : Dev nD) (A : Fin 2 → Vec F S1x2048x1024 .bf16) :
    iprop(owns (c : Thread nD τ) (accM.slice (halfR 0) (fun _ => rfl)) fullShare (A 0) ∗ owns (c : Thread nD τ) (accM.slice (halfR 1) (fun _ => rfl)) fullShare (A 1))
      ⊢ (BI.bigSep Finset.univ fun r : Fin 2 => iprop(owns (c : Thread nD τ) (accB r (back r 0 c)) fullShare (rows (A r) (back r 0 c))
          ∗ owns (c : Thread nD τ) (accB r (back r 1 c)) fullShare (rows (A r) (back r 1 c)) ∗ owns (c : Thread nD τ) (accB r (back r 2 c)) fullShare (rows (A r) (back r 2 c))
          ∗ owns (c : Thread nD τ) (accB r (back r 3 c)) fullShare (rows (A r) (back r 3 c))) : sProp 𝕄) := by
  have h1 : (iprop(owns (c : Thread nD τ) (accM.slice (halfR 0) (fun _ => rfl)) fullShare (A 0) ∗ owns (c : Thread nD τ) (accM.slice (halfR 1) (fun _ => rfl)) fullShare (A 1)) : sProp 𝕄)
      ⊢ iprop(∃ Y, ⌜∀ t j, Y ((halfR t).emb j) = A t j⌝ ∗ owns (c : Thread nD τ) accM fullShare Y) := by
    refine BIBase.Entails.trans ?_ (join_parts (c : Thread nD τ) accM halfR (fun _ _ => rfl) halfR_disjoint halfR_cover A)
    rw [bigSep_univ_two]
  refine BIBase.Entails.trans h1 ?_
  iintro ⟨%Y, %hY, H⟩
  iapply (BIBase.Entails.trans (owns_rects (c : Thread nD τ) accM fullShare (fun t : Fin 2 × Dev nD => accR t.1 t.2) (fun _ _ => rfl) accR_disjoint accR_cover Y)
    (show _ ⊢ _ from by
      rw [bigSep_univ_prod]
      refine BI.bigSep_mono fun r _ => ?_
      rw [← four r 0 c fun i => owns (c : Thread nD τ) (accB r i) fullShare (rows (A r) i)]
      refine BI.bigSep_mono fun i _ => ?_
      unfold rows
      rw [owns_squeeze (c : Thread nD τ) (accM.slice (accR r i) (fun _ => rfl))]
      rw [show (fun j => Y ((accR (r, i).1 (r, i).2).emb j)) = fun j => A r (rowIdx i j) from funext fun j => by rw [← hY, halfR_rowIdx]]
      exact ent_eq rfl)) $$ H

/-- Its row blocks, whatever they hold, are the accumulator again. -/
theorem acc_whole (c : Dev nD) (T : Fin 2 → Dev nD → Blk F) :
    (BI.bigSep Finset.univ fun r : Fin 2 => iprop(owns (c : Thread nD τ) (accB r (back r 3 c)) fullShare (T r (back r 3 c))
          ∗ owns (c : Thread nD τ) (accB r (back r 4 c)) fullShare (T r (back r 4 c)) ∗ owns (c : Thread nD τ) (accB r (back r 5 c)) fullShare (T r (back r 5 c))
          ∗ owns (c : Thread nD τ) (accB r (back r 6 c)) fullShare (T r (back r 6 c))) : sProp 𝕄)
      ⊢ iprop(∃ f : Buf (Elt F) ((c : Thread nD τ).loc cc0_scratch0), (c : Thread nD τ).loc cc0_scratch0 ↦{fullShare} f) := by
  refine BIBase.Entails.trans (show _ ⊢ _ from by
    rw [BI.bigSep_congr fun r _ => (four r 3 c fun i => owns (c : Thread nD τ) (accB r i) fullShare (T r i)).symm,
      ← bigSep_univ_prod fun t : Fin 2 × Dev nD => owns (c : Thread nD τ) (accB t.1 t.2) fullShare (T t.1 t.2)]
    refine BI.bigSep_mono fun t _ => ?_
    rw [owns_accB]
    exact ent_eq rfl)
    (join_parts (c : Thread nD τ) accM (fun t : Fin 2 × Dev nD => accR t.1 t.2) (fun _ _ => rfl) accR_disjoint accR_cover
      fun t => (shapeCast S1x512x1024 (T t.1 t.2) shapeCasts_S512x1024_S1x512x1024 : Vec F S1x512x1024 .bf16)) |>.trans ?_
  iintro ⟨%Y, -, H⟩
  iexists Y
  iapply (ent_eq (owns_whole (c : Thread nD τ) _ fullShare Y)) $$ H

/-! ## The landing buffer -/

/-- The landing buffer cut into its slots, -/
theorem recv_slots (c : Dev nD) (f : Buf (Elt F) ((c : Thread nD τ).loc cc0_scratch1)) :
    iprop((c : Thread nD τ).loc cc0_scratch1 ↦{fullShare} f) ⊢ (iprop(slots 0 c ∗ slots 1 c) : sProp 𝕄) := by
  rw [← owns_whole]
  refine BIBase.Entails.trans (cut_some (c : Thread nD τ) recvM (fun t : Fin 2 × Fin 3 => recvR t.1 t.2) (fun _ _ => rfl) recvR_disjoint recvR_cover f) ?_
  rw [bigSep_univ_prod, ← bigSep_univ_two fun r => (slots r c : sProp 𝕄)]
  refine BI.bigSep_mono fun r _ => ?_
  unfold slots
  rw [← three fun k => iprop(∃ Y, owns (c : Thread nD τ) (recvB r k) fullShare Y)]
  refine BI.bigSep_mono fun k _ => ?_
  show iprop(∃ Y, owns (c : Thread nD τ) (recvM.slice (recvR r k) (fun _ => rfl)) fullShare Y) ⊢ iprop(∃ Y, owns (c : Thread nD τ) (recvB r k) fullShare Y)
  iintro ⟨%Y, H⟩
  iexists (shapeCast S512x1024 Y squeezes_S1x1x512x1024_S512x1024.numel_eq : Blk F)
  iapply (ent_eq (owns_squeeze (c : Thread nD τ) (recvM.slice (recvR r k) (fun _ => rfl)) squeezes_S1x1x512x1024_S512x1024 fullShare Y).symm) $$ H

/-- and put together again. -/
theorem recv_whole (c : Dev nD) (T : Fin 2 → Fin 3 → Blk F) :
    (BI.bigSep Finset.univ fun r : Fin 2 => iprop(owns (c : Thread nD τ) (recvB r 0) fullShare (T r 0)
          ∗ owns (c : Thread nD τ) (recvB r 1) fullShare (T r 1) ∗ owns (c : Thread nD τ) (recvB r 2) fullShare (T r 2)) : sProp 𝕄)
      ⊢ iprop(∃ f : Buf (Elt F) ((c : Thread nD τ).loc cc0_scratch1), (c : Thread nD τ).loc cc0_scratch1 ↦{fullShare} f) := by
  refine BIBase.Entails.trans (show _ ⊢ _ from by
    rw [BI.bigSep_congr fun r _ => (three fun k => owns (c : Thread nD τ) (recvB r k) fullShare (T r k)).symm,
      ← bigSep_univ_prod fun t : Fin 2 × Fin 3 => owns (c : Thread nD τ) (recvB t.1 t.2) fullShare (T t.1 t.2)]
    refine BI.bigSep_mono fun t _ => ?_
    rw [owns_recvB]
    exact ent_eq rfl)
    (join_parts (c : Thread nD τ) recvM (fun t : Fin 2 × Fin 3 => recvR t.1 t.2) (fun _ _ => rfl) recvR_disjoint recvR_cover
      fun t => (shapeCast S1x1x512x1024 (T t.1 t.2) (by decide) : Vec F S1x1x512x1024 .bf16)) |>.trans ?_
  iintro ⟨%Y, -, H⟩
  iexists Y
  iapply (ent_eq (owns_whole (c : Thread nD τ) _ fullShare Y)) $$ H

/-! ## The result -/

/-- The result cut into the blocks that are stored, -/
theorem out_blocks (c : Dev nD) (f : Buf (Elt F) ((c : Thread nD τ).loc cc0_stg2_0)) :
    iprop((c : Thread nD τ).loc cc0_stg2_0 ↦{fullShare} f)
      ⊢ (BI.bigSep Finset.univ fun r : Fin 2 => iprop((∃ Y, owns (c : Thread nD τ) (outB r (back r 3 c)) fullShare Y) ∗ (∃ Y, owns (c : Thread nD τ) (outB r (back r 4 c)) fullShare Y)
          ∗ (∃ Y, owns (c : Thread nD τ) (outB r (back r 5 c)) fullShare Y) ∗ ∃ Y, owns (c : Thread nD τ) (outB r (back r 6 c)) fullShare Y) : sProp 𝕄) := by
  rw [← owns_whole]
  refine BIBase.Entails.trans (cut_some (c : Thread nD τ) outM (fun t : Fin 2 × Dev nD => outR t.1 t.2) (fun _ _ => rfl) outR_disjoint outR_cover f) ?_
  rw [bigSep_univ_prod]
  refine BI.bigSep_mono fun r _ => ?_
  rw [← four r 3 c fun i => iprop(∃ Y, owns (c : Thread nD τ) (outB r i) fullShare Y)]
  exact ent_eq rfl

/-- The array whose row block `i`, column half `r` is `T r i`. -/
def whole (T : Fin 2 → Dev nD → Vec F S512x1024 .f32) : Vec F S2048x2048 .f32 :=
  Classical.choose (glue (fun t : Fin 2 × Dev nD => outR t.1 t.2) outR_disjoint outR_cover fun t => T t.1 t.2)
theorem whole_emb (T : Fin 2 → Dev nD → Vec F S512x1024 .f32) (r : Fin 2) (i : Dev nD) (j : S512x1024.Idx) : whole T ((outR r i).emb j) = T r i j :=
  Classical.choose_spec (glue (fun t : Fin 2 × Dev nD => outR t.1 t.2) outR_disjoint outR_cover fun t => T t.1 t.2) (r, i) j

/-- and put together again. -/
theorem out_whole (c : Dev nD) (T : Fin 2 → Dev nD → Vec F S512x1024 .f32) :
    (BI.bigSep Finset.univ fun r : Fin 2 => iprop(owns (c : Thread nD τ) (outB r (back r 3 c)) fullShare (T r (back r 3 c))
          ∗ owns (c : Thread nD τ) (outB r (back r 4 c)) fullShare (T r (back r 4 c)) ∗ owns (c : Thread nD τ) (outB r (back r 5 c)) fullShare (T r (back r 5 c))
          ∗ owns (c : Thread nD τ) (outB r (back r 6 c)) fullShare (T r (back r 6 c))) : sProp 𝕄)
      ⊢ iprop((c : Thread nD τ).loc cc0_stg2_0 ↦{fullShare} (whole T : Buf (Elt F) ((c : Thread nD τ).loc cc0_stg2_0))) := by
  rw [← owns_whole]
  refine BIBase.Entails.trans (show _ ⊢ _ from by
    rw [BI.bigSep_congr fun r _ => (four r 3 c fun i => owns (c : Thread nD τ) (outB r i) fullShare (T r i)).symm,
      ← bigSep_univ_prod fun t : Fin 2 × Dev nD => owns (c : Thread nD τ) (outB t.1 t.2) fullShare (T t.1 t.2)]
    refine BI.bigSep_mono fun t _ => ?_
    rw [show T t.1 t.2 = fun j => whole T ((outR t.1 t.2).emb j) from funext fun j => (whole_emb T t.1 t.2 j).symm]
    exact ent_eq rfl)
    (owns_of_rects (c : Thread nD τ) outM fullShare (fun t : Fin 2 × Dev nD => outR t.1 t.2) (fun _ _ => rfl) outR_disjoint outR_cover (whole T))

end Cert.AllReduce
-- ==== Proof.Body.lean ====
/-
# The kernel on one device

The body run once at a symbolic device: the handshake, the two products, then the twelve hops of the two rings.
-/
module

public import proofs.«01_k».proof.Proof.Buffers

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The two column halves of one device's product, as they are stored. -/
def halves (x : Vec F S2048x512 .bf16) (w : Vec F S512x2048 .bf16) : Fin 2 → Vec F S1x2048x1024 .bf16
  | 0 => k0_pay4 x w
  | 1 => k0_pay5 x w

/-- One thing for each hop of each ring. -/
theorem twelve (Φ : Fin 2 → Fin 6 → sProp 𝕄) : (BI.bigSep Finset.univ fun r => BI.bigSep Finset.univ fun h => Φ r h : sProp 𝕄)
    = iprop((Φ 0 0 ∗ Φ 0 1 ∗ Φ 0 2 ∗ Φ 0 3 ∗ Φ 0 4 ∗ Φ 0 5) ∗ Φ 1 0 ∗ Φ 1 1 ∗ Φ 1 2 ∗ Φ 1 3 ∗ Φ 1 4 ∗ Φ 1 5) := by
  have six : ∀ Ψ : Fin 6 → sProp 𝕄, BI.bigSep Finset.univ Ψ = iprop(Ψ 0 ∗ Ψ 1 ∗ Ψ 2 ∗ Ψ 3 ∗ Ψ 4 ∗ Ψ 5) := fun Ψ =>
    bigSep_univ_eq_bigSepL [0, 1, 2, 3, 4, 5] (by decide) (by decide) Ψ
  rw [bigSep_univ_two, six, six]

theorem zero₂ : (![0, 0] : Fin 2 → ℕ) = fun _ => 0 := funext fun a => by fin_cases a <;> rfl

theorem credit_accS {r : Rect S2x2048x1024} (hr : ∀ a, r.stride a = 1) (h : r.shape.Squeezes S512x1024) :
    ((accM.slice r hr).squeeze S512x1024 h).view.dmaCredit = N := rfl
theorem credit_recvS {r : Rect S2x3x512x1024} (hr : ∀ a, r.stride a = 1) (h : r.shape.Squeezes S512x1024) :
    ((recvM.slice r hr).squeeze S512x1024 h).view.dmaCredit = N := rfl

/-- A load of a whole staged block reads what it holds. -/
theorem read_x (inb : ∀ a, (![0, 0] : Fin 2 → ℕ) a + S2048x512.size a ≤ S2048x512.size a) (f : Vec F S2048x512 .bf16) :
    xM.view.readAt (Elt F) (Rect.unit (s := S2048x512) ![0, 0] S2048x512.size inb).toLoadRect f = f :=
  Memref.readAt_unit_zero (Elt F) cc0_stg0_0 zero₂ _ f
theorem read_w (inb : ∀ a, (![0, 0] : Fin 2 → ℕ) a + S512x2048.size a ≤ S512x2048.size a) (f : Vec F S512x2048 .bf16) :
    wM.view.readAt (Elt F) (Rect.unit (s := S512x2048) ![0, 0] S512x2048.size inb).toLoadRect f = f :=
  Memref.readAt_unit_zero (Elt F) cc0_stg1_0 zero₂ _ f

/-! The rows a copy sends, receives and stores, the hop's number being given as the program writes it. -/
theorem off1_at (c : Dev nD) (h : Fin 6) (w : BitVec 32) (hw : w = BitVec.ofInt 32 (-h.val)) : k0_off1 c w = accOff 0 (back 0 h.val c) := hw ▸ off1_eq c h
theorem off2_at (c : Dev nD) (h : Fin 6) (w : BitVec 32) (hw : w = BitVec.ofNat 32 h.val) : k0_off2 c w = accOff 1 (back 1 h.val c) := hw ▸ off2_eq c h
theorem off3_at (c : Dev nD) (h : Fin 6) (w : BitVec 32) (hw : w = BitVec.ofInt 32 (-(h.val + 1))) : k0_off3 c w = accOff 0 (back 0 (h.val + 1) c) := hw ▸ off3_eq c h
theorem off4_at (c : Dev nD) (h : Fin 6) (w : BitVec 32) (hw : w = BitVec.ofNat 32 (h.val + 1)) : k0_off4 c w = accOff 1 (back 1 (h.val + 1) c) := hw ▸ off4_eq c h
theorem off5_at (c : Dev nD) (h : Fin 6) (w : BitVec 32) (hw : w = BitVec.ofInt 32 (-(h.val + 1))) : k0_off5 c w = outOff 0 (back 0 (h.val + 1) c) := hw ▸ off5_eq c h
theorem off6_at (c : Dev nD) (h : Fin 6) (w : BitVec 32) (hw : w = BitVec.ofNat 32 (h.val + 1)) : k0_off6 c w = outOff 1 (back 1 (h.val + 1) c) := hw ▸ off6_eq c h

/-- A ring's first copy carries nothing but its rows. -/
theorem carry_first (P : Fin 2 → Dev nD → Dev nD → Blk F) (r : Fin 2) (c : Dev nD) : (iprop(emp) : sProp 𝕄) ⊢ carry P r 0 c := ent_eq rfl

/-- The two neighbours of a device are each other's two hops away: on ring 0 the one before it, on ring 1 the one after. -/
theorem fwd_fwd (c : Dev nD) : fwd 0 (fwd 1 c) = c ∧ fwd 1 (fwd 0 c) = c := by revert c; decide

section Body
variable (P : Fin 2 → Dev nD → Dev nD → Blk F) (K : Dev nD × Ci → ℕ)

/-- What the body starts from on device `c`, its block of `x` holding `X`, its block of the weights `W`. -/
def bodyPre (X : Vec F S2048x512 .bf16) (W : Vec F S512x2048 .bf16) (c : Dev nD) : sProp 𝕄 :=
  iprop(ctx P K ∗ atPos ER (barCell c) 0 ∅ 0 ∗ dutyTok ER (barCell (fwd 1 c)) 0 0 ∗ dutyTok ER (barCell (fwd 0 c)) 0 1 ∗ cred (tallyAt (barCell c) () 2)
    ∗ (BI.bigSep Finset.univ fun r => BI.bigSep Finset.univ fun h => toSend r h c)
    ∗ owing c (O₀ c)
    ∗ ((c : Thread nD τ).loc cc0_stg0_0 ↦{fullShare} X) ∗ ((c : Thread nD τ).loc cc0_stg1_0 ↦{fullShare} W)
    ∗ (∃ f, (c : Thread nD τ).loc cc0_stg2_0 ↦{fullShare} f) ∗ (∃ f, (c : Thread nD τ).loc cc0_scratch0 ↦{fullShare} f) ∗ (∃ f, (c : Thread nD τ).loc cc0_scratch1 ↦{fullShare} f))

/-- A device's own block of rows is the source of its first copy. -/
theorem src_zero (r : Fin 2) (c : Dev nD) : owns (c : Thread nD τ) (accB r (back r 0 c)) fullShare (P r c (back r 0 c)) ⊢ src P r 0 c := by
  unfold src
  rw [show partialSum P r 0 c = P r c c from rfl, back_zero]

/-- What every device's result holds: the positive part of every block's sum. -/
def result : Vec F S2048x2048 .f32 := whole fun r i => reluBlk (total P r i)

def bodyPost (X : Vec F S2048x512 .bf16) (W : Vec F S512x2048 .bf16) (c : Dev nD) : sProp 𝕄 :=
  iprop(owing c 0
    ∗ ((c : Thread nD τ).loc cc0_stg0_0 ↦{fullShare} X) ∗ ((c : Thread nD τ).loc cc0_stg1_0 ↦{fullShare} W)
    ∗ ((c : Thread nD τ).loc cc0_stg2_0 ↦{fullShare} result P) ∗ (∃ f, (c : Thread nD τ).loc cc0_scratch0 ↦{fullShare} f) ∗ (∃ f, (c : Thread nD τ).loc cc0_scratch1 ↦{fullShare} f)
    ∗ semVal (barCell c) 0 ∗ (BI.bigSep Finset.univ fun r => BI.bigSep Finset.univ fun h => waited r h c))

set_option maxRecDepth 65536 in
set_option maxHeartbeats 4000000 in
theorem sound_body (X : Vec F S2048x512 .bf16) (W : Vec F S512x2048 .bf16) (c : Dev nD) (hP : ∀ r i, P r c i = rows (halves X W r) i) (Q : PUnit → sProp 𝕄) :
    iprop(bodyPre P K X W c ∗ (bodyPost P X W c -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) cc0_scratch2 cc0_scratch3) Q := by
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, Prog.bind_assoc, wp_deviceId]
  unfold bodyPre
  iintro ⟨⟨#Hctx, HaB, HtB1, HtB0, HcB, Hs, HO, Hx, Hw, ⟨%f2, Hout⟩, ⟨%f0, Hacc⟩, ⟨%f1, Hrecv⟩⟩, Hk⟩
  ihave Hs := (ent_eq (twelve fun r h => toSend (F := F) r h c)) $$ Hs
  icases Hs with ⟨⟨S00, S01, S02, S03, S04, S05⟩, S10, S11, S12, S13, S14, S15⟩
  ihave HB := (ctx_cell P K c none) $$ Hctx
  icases HB with ⟨#HIb, -⟩
  ihave HB := (ctx_cell P K (fwd 1 c) none) $$ Hctx
  icases HB with ⟨#HIb1, #HR1⟩
  ihave HB := (ctx_cell P K (fwd 0 c) none) $$ Hctx
  icases HB with ⟨#HIb0, #HR0⟩
  ihave #Hlev := (ctx_lev P K) $$ Hctx
  ihave Hrecv := (recv_slots c f1) $$ Hrecv
  icases Hrecv with ⟨Hl0, Hl1⟩
  ihave Hacc := (acc_halves c f0) $$ Hacc
  icases Hacc with ⟨⟨%Y0, Ha0⟩, ⟨%Y1, Ha1⟩⟩
  ihave Hout := (BIBase.Entails.trans (out_blocks c f2) (ent_eq (bigSep_univ_two _))) $$ Hout
  icases Hout with ⟨⟨O03, O04, O05, O06⟩, O13, O14, O15, O16⟩
  unfold owing O₀
  icases HO with ⟨%W0, HO⟩
  simp only [dev1_eq c, dev2_eq c]
  -- the first signal, to ring 1's peer: duty 0 of its barrier, with the slots of ring 0
  iapply (Rounds.wp_signal 𝒱₀ ER (ringRd P) (c : Thread nD τ) none (dst := (fwd 1 c : Thread nD τ)) (κ := K (fwd 1 c, none))
      (d := 0) (by rw [duties_bar]; exact Finset.mem_univ _) ((amount_bar P (fwd 1 c) 0).trans (by decide)) () (O₁ c) rfl)
    $$ [HO HtB1 Hl0]
  · isplitr; · iexact HIb1
    isplitl [HO]; · iexact HO
    isplitl [HtB1]; · iexact HtB1
    isplitl [Hl0]
    · rw [payload_bar, (fwd_fwd c).1]; iexact Hl0
    iexact HR1
  iintro HO
  unfold O₁
  -- the second, to ring 0's peer: duty 1, with the slots of ring 1
  iapply (Rounds.wp_signal 𝒱₀ ER (ringRd P) (c : Thread nD τ) none (dst := (fwd 0 c : Thread nD τ)) (κ := K (fwd 0 c, none))
      (d := 1) (by rw [duties_bar]; exact Finset.mem_univ _) ((amount_bar P (fwd 0 c) 1).trans (by decide)) () (rem c 12) rfl)
    $$ [HO HtB0 Hl1]
  · isplitr; · iexact HIb0
    isplitl [HO]; · iexact HO
    isplitl [HtB0]; · iexact HtB0
    isplitl [Hl1]
    · rw [payload_bar, (fwd_fwd c).2]; iexact Hl1
    iexact HR0
  iintro HO
  -- the loads and the two products
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load_slice (c : Thread nD τ) accM (r := halfR 0) (hr := fun _ => rfl)) $$ Ha0; iintro Ha0
  iapply (wp_store_slice (c : Thread nD τ) accM (r := halfR 0) (hr := fun _ => rfl)) $$ Ha0; iintro Ha0
  iapply (wp_load_slice (c : Thread nD τ) accM (r := halfR 1) (hr := fun _ => rfl)) $$ Ha1; iintro Ha1
  iapply (wp_store_slice (c : Thread nD τ) accM (r := halfR 1) (hr := fun _ => rfl)) $$ Ha1; iintro Ha1
  have hrows := acc_rows c (halves X W)
  simp only [← hP] at hrows
  rw [bigSep_univ_two] at hrows
  ihave Hacc := hrows $$ [Ha0 Ha1]
  · isplitl [Ha0]; · iexact Ha0
    iexact Ha1
  icases Hacc with ⟨⟨A00, A01, A02, A03⟩, A10, A11, A12, A13⟩
  -- the wait for both peers
  iapply (Rounds.wp_wait_rest_token 𝒱₀ ER (ringRd P) (c : Thread nD τ) none (κ := K (c, none))
      (wpE_semWait_eq 𝒱₀ (c : Thread nD τ) none Set.univ) (Set.mem_univ _) () (O := rem c 12) (W := W0) (R := 0) (m := 0) (T := ∅)
      (by rw [expect_bar]; decide)) $$ [HcB HO HaB]
  · isplitr; · iexact HIb
    isplitl [HcB]; · iexact HcB
    isplitl [HO]; · iexact HO
    isplitr
    · iapply (mayWait_of_above c (.reg barS) (above_rem_bar c)); iexact Hlev
    iexact HaB
  iintro ⟨HO, HaB, -, Hpay⟩
  ihave Hp := (BIBase.Entails.of_eq (rest_bar P c)) $$ Hpay
  unfold slots
  icases Hp with ⟨⟨R00, R01, R02⟩, R10, R11, R12⟩
  imod (Rounds.cell_close ER (ringRd P) (Set.mem_univ (K (c, none))) (fun h => h) (R := 0 + 1) (duties_later P (barCell c))) $$ [HaB] with HzB
  · isplitr; · iexact HIb
    iexact HaB
  ihave HO := (show owes (c : Thread nD τ) (rem c 12) (insert (SemLoc.reg barS, ()) W0) ⊢ owing c (rem c 12) from by unfold owing; iintro H; iexists _; iexact H) $$ HO
  ihave A00 := (src_zero P 0 c) $$ A00
  iapply (wp_send_reduce P K 0 0 0 rfl c (dev3_eq c) (sem_send 0 0 _) (sem_recv 0 0 _) (rem c 11) rfl (off1_at c 0 0#32 (by decide)) rfl) $$ [S00 A00 R00 HO]
  · isplitr; · iexact Hctx
    isplitl [S00]; · iexact S00
    isplitl [A00]; · iexact A00
    isplitl [R00]; · iexact R00
    isplitr [HO]; · iapply (carry_first P 0 c); iempintro
    iexact HO
  iintro ⟨T00, HO⟩
  ihave A10 := (src_zero P 1 c) $$ A10
  iapply (wp_send_reduce P K 1 0 0 rfl c (dev4_eq c) (sem_send 1 0 _) (sem_recv 1 0 _) (rem c 10) rfl (off2_at c 0 0#32 (by decide)) rfl) $$ [S10 A10 R10 HO]
  · isplitr; · iexact Hctx
    isplitl [S10]; · iexact S10
    isplitl [A10]; · iexact A10
    isplitl [R10]; · iexact R10
    isplitr [HO]; · iapply (carry_first P 1 c); iempintro
    iexact HO
  iintro ⟨T10, HO⟩
  -- hop 0 of ring 0
  iapply (wp_hop_reduce P K 0 0 1 rfl 0 1 rfl rfl c (above_rem c 10 0 (by omega)) (rem c 9) rfl (sem_send 0 0 _) (sem_recv 0 0 _) (credit_accS _ _) (credit_recvS _ _)
      (off3_at c 0 4294967295#32 (by decide)) rfl (fun _ _ => rfl) (dev5_eq c) (sem_send 0 1 _) (sem_recv 0 1 _) (off1_at c 1 4294967295#32 (by decide)) rfl) $$ [T00 S01 HO A01 R01]
  · isplitr; · iexact Hctx
    isplitl [T00]; · iexact T00
    isplitl [S01]; · iexact S01
    isplitl [HO]; · iexact HO
    isplitl [A01]; · iexact A01
    iexact R01
  iintro ⟨W00, T01, HO, L00⟩
  -- hop 0 of ring 1
  iapply (wp_hop_reduce P K 1 0 1 rfl 0 1 rfl rfl c (above_rem c 9 0 (by omega)) (rem c 8) rfl (sem_send 1 0 _) (sem_recv 1 0 _) (credit_accS _ _) (credit_recvS _ _)
      (off4_at c 0 1#32 (by decide)) rfl (fun _ _ => rfl) (dev6_eq c) (sem_send 1 1 _) (sem_recv 1 1 _) (off2_at c 1 1#32 (by decide)) rfl) $$ [T10 S11 HO A11 R11]
  · isplitr; · iexact Hctx
    isplitl [T10]; · iexact T10
    isplitl [S11]; · iexact S11
    isplitl [HO]; · iexact HO
    isplitl [A11]; · iexact A11
    iexact R11
  iintro ⟨W10, T11, HO, L10⟩
  -- hop 1 of ring 0
  iapply (wp_hop_reduce P K 0 1 2 rfl 1 2 rfl rfl c (above_rem c 8 1 (by omega)) (rem c 7) rfl (sem_send 0 1 _) (sem_recv 0 1 _) (credit_accS _ _) (credit_recvS _ _)
      (off3_at c 1 4294967294#32 (by decide)) rfl (fun _ _ => rfl) (dev7_eq c) (sem_send 0 2 _) (sem_recv 0 2 _) (off1_at c 2 4294967294#32 (by decide)) rfl) $$ [T01 S02 HO A02 R02]
  · isplitr; · iexact Hctx
    isplitl [T01]; · iexact T01
    isplitl [S02]; · iexact S02
    isplitl [HO]; · iexact HO
    isplitl [A02]; · iexact A02
    iexact R02
  iintro ⟨W01, T02, HO, L01⟩
  -- hop 1 of ring 1
  iapply (wp_hop_reduce P K 1 1 2 rfl 1 2 rfl rfl c (above_rem c 7 1 (by omega)) (rem c 6) rfl (sem_send 1 1 _) (sem_recv 1 1 _) (credit_accS _ _) (credit_recvS _ _)
      (off4_at c 1 2#32 (by decide)) rfl (fun _ _ => rfl) (dev8_eq c) (sem_send 1 2 _) (sem_recv 1 2 _) (off2_at c 2 2#32 (by decide)) rfl) $$ [T11 S12 HO A12 R12]
  · isplitr; · iexact Hctx
    isplitl [T11]; · iexact T11
    isplitl [S12]; · iexact S12
    isplitl [HO]; · iexact HO
    isplitl [A12]; · iexact A12
    iexact R12
  iintro ⟨W11, T12, HO, L11⟩
  -- hop 2 of ring 0
  iapply (wp_hop_turn P K 0 2 rfl 2 3 rfl rfl c (above_rem c 6 2 (by omega)) (rem c 5) rfl (sem_send 0 2 _) (sem_recv 0 2 _) (credit_accS _ _) (credit_recvS _ _)
      (off3_at c 2 4294967293#32 (by decide)) rfl (fun _ _ => rfl) (dev9_eq c) (sem_send 0 3 _) (sem_recv 0 3 _) (off1_at c 3 4294967293#32 (by decide)) (off3_at c 2 4294967293#32 (by decide)) (off5_at c 2 4294967293#32 (by decide)) (fun _ => rfl)) $$ [T02 S03 HO A03 O03]
  · isplitr; · iexact Hctx
    isplitl [T02]; · iexact T02
    isplitl [S03]; · iexact S03
    isplitl [HO]; · iexact HO
    isplitl [A03]; · iexact A03
    iexact O03
  iintro ⟨W02, T03, HO, L02, A03, O03⟩
  -- hop 2 of ring 1
  iapply (wp_hop_turn P K 1 2 rfl 2 3 rfl rfl c (above_rem c 5 2 (by omega)) (rem c 4) rfl (sem_send 1 2 _) (sem_recv 1 2 _) (credit_accS _ _) (credit_recvS _ _)
      (off4_at c 2 3#32 (by decide)) rfl (fun _ _ => rfl) (dev10_eq c) (sem_send 1 3 _) (sem_recv 1 3 _) (off2_at c 3 3#32 (by decide)) (off4_at c 2 3#32 (by decide)) (off6_at c 2 3#32 (by decide)) (fun _ => rfl)) $$ [T12 S13 HO A13 O13]
  · isplitr; · iexact Hctx
    isplitl [T12]; · iexact T12
    isplitl [S13]; · iexact S13
    isplitl [HO]; · iexact HO
    isplitl [A13]; · iexact A13
    iexact O13
  iintro ⟨W12, T13, HO, L12, A13, O13⟩
  -- hop 3 of ring 0
  iapply (wp_hop_gather P K 0 3 4 (by decide) rfl c (above_rem c 4 3 (by omega)) (rem c 3) rfl (sem_send 0 3 _) (sem_recv 0 3 _) (credit_accS _ _) (credit_accS _ _)
      (dev11_eq c) (sem_send 0 4 _) (sem_recv 0 4 _) (off1_at c 4 4294967292#32 (by decide)) (off3_at c 3 4294967292#32 (by decide)) (off5_at c 3 4294967292#32 (by decide)) (fun _ => rfl)) $$ [T03 S04 HO A03 O04]
  · isplitr; · iexact Hctx
    isplitl [T03]; · iexact T03
    isplitl [S04]; · iexact S04
    isplitl [HO]; · iexact HO
    isplitl [A03]; · iexact A03
    iexact O04
  iintro ⟨W03, T04, HO, A03, A04, O04⟩
  -- hop 3 of ring 1
  iapply (wp_hop_gather P K 1 3 4 (by decide) rfl c (above_rem c 3 3 (by omega)) (rem c 2) rfl (sem_send 1 3 _) (sem_recv 1 3 _) (credit_accS _ _) (credit_accS _ _)
      (dev12_eq c) (sem_send 1 4 _) (sem_recv 1 4 _) (off2_at c 4 4#32 (by decide)) (off4_at c 3 4#32 (by decide)) (off6_at c 3 4#32 (by decide)) (fun _ => rfl)) $$ [T13 S14 HO A13 O14]
  · isplitr; · iexact Hctx
    isplitl [T13]; · iexact T13
    isplitl [S14]; · iexact S14
    isplitl [HO]; · iexact HO
    isplitl [A13]; · iexact A13
    iexact O14
  iintro ⟨W13, T14, HO, A13, A14, O14⟩
  -- hop 4 of ring 0
  iapply (wp_hop_gather P K 0 4 5 (by decide) rfl c (above_rem c 2 4 (by omega)) (rem c 1) rfl (sem_send 0 4 _) (sem_recv 0 4 _) (credit_accS _ _) (credit_accS _ _)
      (dev13_eq c) (sem_send 0 5 _) (sem_recv 0 5 _) (off1_at c 5 4294967291#32 (by decide)) (off3_at c 4 4294967291#32 (by decide)) (off5_at c 4 4294967291#32 (by decide)) (fun _ => rfl)) $$ [T04 S05 HO A04 O05]
  · isplitr; · iexact Hctx
    isplitl [T04]; · iexact T04
    isplitl [S05]; · iexact S05
    isplitl [HO]; · iexact HO
    isplitl [A04]; · iexact A04
    iexact O05
  iintro ⟨W04, T05, HO, A04, A05, O05⟩
  -- hop 4 of ring 1
  iapply (wp_hop_gather P K 1 4 5 (by decide) rfl c (above_rem c 1 4 (by omega)) (rem c 0) rfl (sem_send 1 4 _) (sem_recv 1 4 _) (credit_accS _ _) (credit_accS _ _)
      (dev14_eq c) (sem_send 1 5 _) (sem_recv 1 5 _) (off2_at c 5 5#32 (by decide)) (off4_at c 4 5#32 (by decide)) (off6_at c 4 5#32 (by decide)) (fun _ => rfl)) $$ [T14 S15 HO A14 O15]
  · isplitr; · iexact Hctx
    isplitl [T14]; · iexact T14
    isplitl [S15]; · iexact S15
    isplitl [HO]; · iexact HO
    isplitl [A14]; · iexact A14
    iexact O15
  iintro ⟨W14, T15, HO, A14, A15, O15⟩
  -- hop 5 of ring 0
  iapply (wp_hop_last P K 0 5 rfl c (above_rem c 0 5 (by omega)) (sem_send 0 5 _) (sem_recv 0 5 _) (credit_accS _ _) (credit_accS _ _)
      (off3_at c 5 4294967290#32 (by decide)) (off5_at c 5 4294967290#32 (by decide)) (fun _ => rfl)) $$ [T05 HO A05 O06]
  · isplitr; · iexact Hctx
    isplitl [T05]; · iexact T05
    isplitl [HO]; · iexact HO
    isplitl [A05]; · iexact A05
    iexact O06
  iintro ⟨W05, HO, A05, A06, O06⟩
  -- hop 5 of ring 1
  iapply (wp_hop_last P K 1 5 rfl c (above_rem c 0 5 (by omega)) (sem_send 1 5 _) (sem_recv 1 5 _) (credit_accS _ _) (credit_accS _ _)
      (off4_at c 5 6#32 (by decide)) (off6_at c 5 6#32 (by decide)) (fun _ => rfl)) $$ [T15 HO A15 O16]
  · isplitr; · iexact Hctx
    isplitl [T15]; · iexact T15
    isplitl [HO]; · iexact HO
    isplitl [A15]; · iexact A15
    iexact O16
  iintro ⟨W15, HO, A15, A16, O16⟩
  rw [wp_ret]; imodintro
  iapply Hk
  unfold bodyPost
  isplitl [HO]; · iexact HO
  isplitl [Hx]; · iexact Hx
  isplitl [Hw]; · iexact Hw
  isplitl [O03 O04 O05 O06 O13 O14 O15 O16]
  · unfold result
    iapply (BIBase.Entails.trans (ent_eq (bigSep_univ_two _).symm) (out_whole c fun r i => reluBlk (total P r i)))
    isplitl [O03 O04 O05 O06]
    · isplitl [O03]; · iexact O03
      isplitl [O04]; · iexact O04
      isplitl [O05]; · iexact O05
      iexact O06
    · isplitl [O13]; · iexact O13
      isplitl [O14]; · iexact O14
      isplitl [O15]; · iexact O15
      iexact O16
  isplitl [A03 A04 A05 A06 A13 A14 A15 A16]
  · iapply (BIBase.Entails.trans (ent_eq (bigSep_univ_two _).symm) (acc_whole c (total P)))
    isplitl [A03 A04 A05 A06]
    · isplitl [A03]; · iexact A03
      isplitl [A04]; · iexact A04
      isplitl [A05]; · iexact A05
      iexact A06
    · isplitl [A13]; · iexact A13
      isplitl [A14]; · iexact A14
      isplitl [A15]; · iexact A15
      iexact A16
  isplitl [L00 L01 L02 L10 L11 L12]
  · iapply (BIBase.Entails.trans (ent_eq (bigSep_univ_two _).symm) (recv_whole c fun r k => partialSum P r k.val (bwd r c)))
    isplitl [L00 L01 L02]
    · isplitl [L00]; · iexact L00
      isplitl [L01]; · iexact L01
      iexact L02
    · isplitl [L10]; · iexact L10
      isplitl [L11]; · iexact L11
      iexact L12
  isplitl [HzB]; · iexact HzB
  iapply (ent_eq (twelve fun r h => waited (F := F) r h c).symm)
  isplitl [W00 W01 W02 W03 W04 W05]
  · isplitl [W00]; · iexact W00
    isplitl [W01]; · iexact W01
    isplitl [W02]; · iexact W02
    isplitl [W03]; · iexact W03
    isplitl [W04]; · iexact W04
    iexact W05
  isplitl [W10]; · iexact W10
  isplitl [W11]; · iexact W11
  isplitl [W12]; · iexact W12
  isplitl [W13]; · iexact W13
  isplitl [W14]; · iexact W14
  iexact W15

end Body

end Cert.AllReduce
-- ==== Proof.Deal.lean ====
/-
# Dealing the rings' cells, tokens and credit

Before the kernels start, every device's semaphores become cells of the protocol, each device gets the tokens of the
duties it pays (its peers' barrier and receive cells, its own send cells) and the credit of what its peers owe it.
-/
module

public import proofs.«01_k».proof.Proof.Body
public import Idealize.ShloMosaic.Lib.Pipeline.Launch
public import Idealize.ShloMosaic.Lib.Pipeline.Kit

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Indices -/

/-- One thing for each copy: by ring, by hop. -/
abbrev each (Φ : Fin 2 → Fin 6 → sProp 𝕄) : sProp 𝕄 := BI.bigSep Finset.univ fun r => BI.bigSep Finset.univ fun h => Φ r h

theorem each_sep (Φ Ψ : Fin 2 → Fin 6 → sProp 𝕄) : each (fun r h => iprop(Φ r h ∗ Ψ r h)) = iprop(each Φ ∗ each Ψ) := by
  unfold each; simp only [bigSep_sep']

/-- The two sorts of DMA cells. -/
theorem bigSep_dma (Φ : Bool × Fin 2 × Fin 6 → sProp 𝕄) :
    bigSep Finset.univ Φ = iprop(each (fun r h => Φ (false, r, h)) ∗ each fun r h => Φ (true, r, h)) := by
  rw [bigSep_univ_prod, bigSep_univ_eq_bigSepL [false, true] (by decide) (by decide), bigSepL_cons_cons, bigSepL_singleton, bigSep_univ_prod, bigSep_univ_prod]
  rfl

/-- The one without an index, then the others. -/
theorem bigSep_opt {α : Type} [Fintype α] (Φ : Option α → sProp 𝕄) : bigSep Finset.univ Φ = iprop(Φ none ∗ bigSep Finset.univ fun a => Φ (some a)) := by
  rw [bigSep_univ_equiv ((Equiv.sumComm _ _).trans (Equiv.optionEquivSumPUnit.{0, 0} α).symm), BI.bigSep_univ_sum, BI.bigSep_univ_of_subsingleton PUnit.unit.{1}]
  rfl

/-- A device's cells: the barrier's, then the two sorts of DMA cells. -/
theorem bigSep_ci (Φ : Ci → sProp 𝕄) :
    bigSep Finset.univ Φ = iprop(Φ none ∗ each (fun r h => Φ (some (false, r, h))) ∗ each fun r h => Φ (some (true, r, h))) := by
  rw [bigSep_opt, bigSep_dma]

/-! ## The cells and the tokens at launch -/

/-- The kernel's own semaphores. -/
abbrev osem (k : Bool × Fin 2 × Fin 6) : SemLoc sig := csem (some k)

theorem csem_injective : Function.Injective csem := by decide
theorem kcell_injective : Function.Injective (kcell : Dev nD × Ci → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- A device's own cells' duties: the barrier's two, one of each DMA cell. -/
abbrev Ti : Type := Fin 2 ⊕ (Bool × Fin 2 × Fin 6)
abbrev tiOf : Ti → Ci × Fin 2
  | .inl d => (none, d)
  | .inr k => (some k, 0)
theorem tiOf_injective : Function.Injective tiOf := by
  rintro (d | k) (d' | k') h
  · exact congrArg Sum.inl (congrArg Prod.snd h)
  · exact absurd (congrArg Prod.fst h) (by simp)
  · exact absurd (congrArg Prod.fst h) (by simp)
  · exact congrArg Sum.inr (Option.some.inj (congrArg Prod.fst h))
abbrev tokOf (ct : Dev nD × Ti) : GSem nD τ sig × ℕ × Fin 2 := (kcell (ct.1, (tiOf ct.2).1), 0, (tiOf ct.2).2)
theorem tokOf_injective : Function.Injective tokOf := by
  rintro ⟨c, t⟩ ⟨c', t'⟩ h
  have h1 := kcell_injective (congrArg Prod.fst h)
  have h2 : (tiOf t).2 = (tiOf t').2 := congrArg (fun x : GSem nD τ sig × ℕ × Fin 2 => x.2.2) h
  have h3 : c = c' := congrArg Prod.fst h1
  have h4 : t = t' := tiOf_injective (Prod.ext (congrArg Prod.snd h1) h2)
  rw [h3, h4]
def ringToks : Finset (GSem nD τ sig × ℕ × Fin 2) := Finset.univ.map ⟨tokOf, tokOf_injective⟩

/-- The tokens of device `c`'s own cells. -/
def toks (c : Dev nD) : sProp 𝕄 :=
  iprop((dutyTok ER (barCell c) 0 0 ∗ dutyTok ER (barCell c) 0 1)
    ∗ each (fun r h => dutyTok ER (sendCell r h c) 0 0) ∗ each fun r h => dutyTok ER (recvCell r h c) 0 0)
/-- The tokens of the duties that device `c` pays. -/
def payToks (c : Dev nD) : sProp 𝕄 :=
  iprop((dutyTok ER (barCell (fwd 1 c)) 0 0 ∗ dutyTok ER (barCell (fwd 0 c)) 0 1)
    ∗ each (fun r h => dutyTok ER (sendCell r h c) 0 0) ∗ each fun r h => dutyTok ER (recvCell r h (fwd r c)) 0 0)

/-- The tokens dealt around the two rings. -/
theorem toks_around : (bigSep Finset.univ fun c : Dev nD => (toks c : sProp 𝕄)) ⊢ bigSep Finset.univ fun c : Dev nD => payToks c := by
  have hr : (bigSep Finset.univ fun c : Dev nD => each fun r h => (dutyTok ER (recvCell r h c) 0 0 : sProp 𝕄))
      = bigSep Finset.univ fun c : Dev nD => each fun r h => dutyTok ER (recvCell r h (fwd r c)) 0 0 := by
    unfold each
    rw [Pipeline.bigSep_univ_comm, Pipeline.bigSep_univ_comm (fun (c : Dev nD) (r : Fin 2) => bigSep Finset.univ fun h => (dutyTok ER (recvCell r h (fwd r c)) 0 0 : sProp 𝕄))]
    exact bigSep_congr fun r _ => bigSep_univ_equiv (along r) (fun c : Dev nD => bigSep Finset.univ fun h => (dutyTok ER (recvCell r h c) 0 0 : sProp 𝕄))
  unfold toks payToks
  rw [bigSep_sep', bigSep_sep', bigSep_sep', bigSep_sep', bigSep_sep', bigSep_sep', ← hr,
    bigSep_univ_equiv (along 1) (fun c : Dev nD => (dutyTok ER (barCell c) 0 0 : sProp 𝕄)),
    bigSep_univ_equiv (along 0) (fun c : Dev nD => (dutyTok ER (barCell c) 0 1 : sProp 𝕄))]
  exact ent_eq rfl

section Deal
variable (P : Fin 2 → Dev nD → Dev nD → Blk F)

/-- What the launch deals device `c`: its cells' states, its positions, its cells' tokens. -/
def G (c : Dev nD) : sProp 𝕄 :=
  iprop((bigSep Finset.univ fun k : Ci => roundState ER (ringRd P) (kcell (c, k)) 0)
    ∗ (bigSep Finset.univ fun k : Ci => iprop(atPos ER (kcell (c, k)) 0 ∅ 0 ∗ reached ER (kcell (c, k)) 0)) ∗ toks c)

/-- What a device owns of the protocol alone. -/
def mine (c : Dev nD) : sProp 𝕄 := iprop((bigSep Finset.univ fun k : Ci => atPos ER (kcell (c, k)) 0 ∅ 0) ∗ payToks c)

/-- What it holds once the cells' invariants are there. -/
def G' (c : Dev nD) : sProp 𝕄 := iprop(∃ K, recs P K ∗ mine c)

theorem fund_ring : BI.own (ER (initOf ringCells ringToks)) ⊢ (|==> bigSep Finset.univ (G P) : sProp 𝕄) := by
  have hX (Φ : GSem nD τ sig → sProp 𝕄) : bigSep ringCells Φ = bigSep Finset.univ fun c : Dev nD => bigSep Finset.univ fun k : Ci => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [BI.bigSep_univ_sum, bigSep_dma, bigSep_univ_two]; rfl
  iintro HX
  imod (Rounds.fund ER (ringRd P) ringCells ringToks) $$ HX with ⟨Hst, Hr, Hat, Htok⟩
  imodintro
  ihave Hst' := (ent_eq (hX fun g => roundState ER (ringRd P) g 0)) $$ Hst
  ihave Hat' := (ent_eq (hX fun g => atPos ER g 0 ∅ 0)) $$ Hat
  ihave Hr' := (ent_eq (hX fun g => reached ER g 0)) $$ Hr
  ihave Htok' := (ent_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(each (fun r h => semVal (sendCell r h c) 0) ∗ each fun r h => semVal (recvCell r h c) 0) := by
  unfold Pipeline.ownSems0; rw [bigSep_dma]
/-- The barrier's semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ci => semVal (kcell (c, k)) 0 : sProp 𝕄) := by
  rw [ownSems0_eq, unscopedSems0_eq, bigSep_ci]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k => iprop(∃ κ : ℕ, cellInv ER (ringRd P) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Ci => semVal (kcell (c, k)) 0) ∗ bigSep Finset.univ fun k : Ci => roundState ER (ringRd P) (kcell (c, k)) 0)
      ⊢ (|={Set.univ}=> bigSep Finset.univ fun k => iprop(∃ κ : ℕ, cellInv ER (ringRd P) κ (kcell (c, k))) : sProp 𝕄) from by
        rw [← bigSep_sep']
        exact (bigSep_mono fun k _ => (Rounds.body_intro ER (ringRd P) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What all know goes to each. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd P) κ (kcell (c, k))))
          ∗ (bigSep Finset.univ fun k => iprop(atPos ER (kcell (c, k)) 0 ∅ 0 ∗ reached ER (kcell (c, k)) 0)) ∗ toks c) : sProp 𝕄)
      ⊢ bigSep Finset.univ (G' P) := by
  rw [bigSep_sep', bigSep_sep', ← bigSep_univ_prod (fun ck : Dev nD × Ci => iprop(∃ κ : ℕ, cellInv ER (ringRd P) κ (kcell ck))),
    bigSep_congr (s := Finset.univ) (fun (c : Dev nD) _ => bigSep_sep' Finset.univ (fun k : Ci => (atPos ER (kcell (c, k)) 0 ∅ 0 : sProp 𝕄)) (fun k => reached ER (kcell (c, k)) 0)),
    bigSep_sep', ← bigSep_univ_prod (fun ck : Dev nD × Ci => (reached ER (kcell ck) 0 : sProp 𝕄))]
  iintro ⟨HI, ⟨Hat, HR⟩, Htok⟩
  ihave HK := (BI.bigSep_exists_pi Finset.univ (fun (ck : Dev nD × Ci) (κ : ℕ) => (cellInv ER (ringRd P) κ (kcell ck) : sProp 𝕄))) $$ HI
  icases HK with ⟨%K, HI⟩
  ihave Htk := (toks_around (F := F)) $$ Htok
  iapply (bigSep_knowing (R := recs P K) (Φ := mine) fun c _ => show iprop(recs P K ∗ mine c) ⊢ G' P c from by
    unfold G'; iintro H; iexists K; iexact H)
  isplitl [HI HR]
  · unfold recs; rw [bigSep_sep']
    isplitl [HI]; · iexact HI
    iexact HR
  · unfold mine; rw [bigSep_sep']
    isplitl [Hat]; · iexact Hat
    iexact Htk

/-- The launch's one step that concerns all devices. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

end Deal

/-! ## The credit -/

theorem recv_eq_iff {r r' : Fin 2} {h h' : Fin 6} {c c' : Dev nD} : recvCell r h c = recvCell r' h' c' ↔ r = r' ∧ h = h' ∧ c = c' := by
  constructor
  · intro he
    have := kcell_injective (a₁ := (c, some (true, r, h))) (a₂ := (c', some (true, r', h'))) he
    simp only [Prod.mk.injEq, Option.some.injEq, true_and] at this
    exact ⟨this.2.1, this.2.2, this.1⟩
  · rintro ⟨rfl, rfl, rfl⟩; rfl
theorem recv_ne_bar (r : Fin 2) (h : Fin 6) (c c' : Dev nD) : recvCell r h c ≠ barCell c' := fun he => by
  have := kcell_injective (a₁ := (c, some (true, r, h))) (a₂ := (c', none)) he
  simp at this
theorem bar_eq_iff {c c' : Dev nD} : barCell c = barCell c' ↔ c = c' :=
  ⟨fun h => congrArg (fun g : GSem nD τ sig => g.1.1) h, fun h => h ▸ rfl⟩

theorem rem_bar (d c : Dev nD) : rem d 12 (barCell c) () = 0 := by
  by_contra hne
  obtain ⟨n, -, -, hg⟩ := rem_pos (c := d) (j := 12) le_rfl (Nat.pos_of_ne_zero hne)
  exact recv_ne_bar _ _ _ _ hg.symm

/-- Of its last `j` copies, device `d` owes the receive cell of ring `r`, hop `h`, of the device it sends to. -/
theorem rem_recv (d c : Dev nD) (r : Fin 2) (h : Fin 6) : ∀ j ≤ 12, rem d j (recvCell r h c) () = if d = bwd r c ∧ 12 - j ≤ 2 * h.val + r.val then N else 0
  | 0, _ => by rw [if_neg (by omega)]; rfl
  | j + 1, hj => by
    unfold rem
    rw [Pi.add_apply, Finsupp.add_apply, tallyAt_apply, rem_recv d c r h j (by omega)]
    have hiff : (recvCell r h c = nthCell (11 - j) d ∧ () = ()) ↔ (d = bwd r c ∧ 11 - j = 2 * h.val + r.val) := by
      rw [and_iff_left rfl, recv_eq_iff]
      constructor
      · rintro ⟨h1, h2, h3⟩
        have e1 := congrArg Fin.val h1
        have e2 := congrArg Fin.val h2
        dsimp only at e1 e2
        refine ⟨?_, by omega⟩
        rw [h3, ← h1, bwd_fwd]
      · rintro ⟨h1, h2⟩
        have e1 : r = ⟨(11 - j) % 2, Nat.mod_lt _ (by decide)⟩ := Fin.ext (by dsimp only; omega)
        refine ⟨e1, Fin.ext (by dsimp only; omega), ?_⟩
        rw [← e1, h1, fwd_bwd]
    by_cases hd : d = bwd r c
    · by_cases h1 : 12 - j ≤ 2 * h.val + r.val
      · rw [if_pos ⟨hd, h1⟩, if_neg (fun hh => by have := (hiff.mp hh).2; omega), if_pos ⟨hd, by omega⟩, Nat.add_zero]
      · rw [if_neg (fun hh => h1 hh.2)]
        by_cases h2 : 11 - j = 2 * h.val + r.val
        · rw [if_pos (hiff.mpr ⟨hd, h2⟩), if_pos ⟨hd, by omega⟩, Nat.zero_add]
        · rw [if_neg (fun hh => h2 (hiff.mp hh).2), if_neg (fun hh => by have := hh.2; omega)]
    · rw [if_neg (fun hh => hd hh.1), if_neg (fun hh => hd (hiff.mp hh).1), if_neg (fun hh => hd hh.1)]

theorem owed_bar (d c : Dev nD) : O₀ d (barCell c) () = (if d = fwd 1 c then 1 else 0) + (if d = fwd 0 c then 1 else 0) := by
  unfold O₀ O₁
  rw [Pi.add_apply, Finsupp.add_apply, Pi.add_apply, Finsupp.add_apply, rem_bar, tallyAt_apply, tallyAt_apply, Nat.zero_add]
  refine congrArg₂ (· + ·) ?_ ?_
  · exact if_congr ⟨fun h => by rw [bar_eq_iff.mp h.1, (fwd_fwd d).2], fun h => ⟨by rw [h, (fwd_fwd c).1], rfl⟩⟩ rfl rfl
  · exact if_congr ⟨fun h => by rw [bar_eq_iff.mp h.1, (fwd_fwd d).1], fun h => ⟨by rw [h, (fwd_fwd c).2], rfl⟩⟩ rfl rfl

theorem owed_recv (d c : Dev nD) (r : Fin 2) (h : Fin 6) : O₀ d (recvCell r h c) () = if d = bwd r c then N else 0 := by
  unfold O₀ O₁
  rw [Pi.add_apply, Finsupp.add_apply, Pi.add_apply, Finsupp.add_apply, tallyAt_apply, tallyAt_apply,
    if_neg (fun hh => recv_ne_bar _ _ _ _ hh.1), if_neg (fun hh => recv_ne_bar _ _ _ _ hh.1), rem_recv d c r h 12 le_rfl]
  exact if_congr ⟨fun hh => hh.1, fun hh => ⟨hh, Nat.zero_le _⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (fwd 1 c) fun _ => 1, Finset.sum_ite_eq' Finset.univ (fwd 0 c) fun _ => 1, if_pos (Finset.mem_univ _), if_pos (Finset.mem_univ _)]

theorem launch_recv (c : Dev nD) (r : Fin 2) (h : Fin 6) :
    tallyOn (recvCell r h c) (launchCredit (Pipeline.owing O₀) 0 (recvCell r h c)) = (tallyAt (recvCell r h c) () N : CellTallies nD τ sig Unit) := by
  unfold tallyAt; refine congrArg _ (Finsupp.ext fun u => ?_); cases u
  rw [Pipeline.launchCredit_owing, Finsupp.single_eq_same, Finset.sum_congr rfl fun d _ => owed_recv d c r h, Finset.sum_ite_eq' Finset.univ (bwd r c) fun _ => N,
    if_pos (Finset.mem_univ _)]

/-- A device's credit: its barrier's two units, one block at each of its receive cells. -/
theorem creds (c : Dev nD) :
    (Pipeline.launchCred O₀ c : sProp 𝕄) ⊢ iprop(cred (tallyAt (barCell c) () 2) ∗ each fun r h => cred (tallyAt (recvCell r h c) () N)) := by
  have hinj : Function.Injective fun k : Option (Fin 2 × Fin 6) => csem (k.map fun x => (true, x)) :=
    csem_injective.comp (Option.map_injective fun a b h => (Prod.mk.inj h).2)
  unfold Pipeline.launchCred
  refine BIBase.Entails.trans (BI.bigSep_subset (Finset.subset_univ (Finset.univ.map ⟨_, hinj⟩))) ?_
  rw [bigSep_map, bigSep_opt, bigSep_univ_prod]
  refine ent_eq (congrArg₂ (fun A B : sProp 𝕄 => iprop(A ∗ B)) ?_ ?_)
  · exact congrArg _ (launch_bar c)
  · exact bigSep_congr fun r _ => bigSep_congr fun h _ => congrArg _ (launch_recv c r h)

end Cert.AllReduce
-- ==== Proof.Launch.lean ====
/-
# The run of the kernel on the mesh

The kernel from any memory and at any float values: it ends on every device, with `x` and the weights as they were, the
result at the positive part of the sum of all devices' products, and every semaphore at zero.
-/
module

public import proofs.«01_k».proof.Proof.Deal
public import proofs.«01_k».proof.Proof.Gen.KernelIdeal.Launch
public import proofs.«01_k».proof.Proof.Gen.KernelIdeal.Points
public import Idealize.ShloMosaic.Lib.Pipeline.CollectiveSegs

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: any contents, counters at zero, any generator registers. -/
def s₀ : MemSt nD τ sig (Elt F) := ⟨m, fun _ => 0, ρ⟩

/-! ## The contents -/

/-- Device `c`'s columns of `x`, as staged, -/
def xstg (c : Dev nD) : Vec F S2048x512 .bf16 := (win0_0.blk (0 : Fin 1)).view.read (Elt F) ((s₀ m ρ).mem ((c : Thread nD τ).loc main_arg0))
/-- and its rows of the weights. -/
def wstg (c : Dev nD) : Vec F S512x2048 .bf16 := (win0_1.blk (0 : Fin 1)).view.read (Elt F) ((s₀ m ρ).mem ((c : Thread nD τ).loc main_arg1))
/-- Row block `i` of column half `r` of device `c`'s product. -/
def prods (r : Fin 2) (c i : Dev nD) : Blk F := rows (halves (xstg m ρ c) (wstg m ρ c) r) i

/-! ## The kernel's run on one device -/

/-- What a device starts from beside its buffers. -/
def start (c : Dev nD) : sProp 𝕄 :=
  iprop(∃ K, ctx (prods m ρ) K ∗ mine c ∗ cred (tallyAt (barCell c) () 2) ∗ each fun r h => cred (tallyAt (recvCell r h c) () N))
/-- The accumulator and the landing slots, at any contents. -/
def scratch (c : Dev nD) : sProp 𝕄 :=
  iprop((∃ f, (c : Thread nD τ).loc cc0_scratch0 ↦{fullShare} f) ∗ (∃ f, (c : Thread nD τ).loc cc0_scratch1 ↦{fullShare} f))
def before (c : Dev nD) : sProp 𝕄 := iprop(start m ρ c ∗ scratch c)
/-- Afterwards every semaphore is back at zero. -/
def after (c : Dev nD) : sProp 𝕄 := iprop(scratch (F := F) c ∗ semVal (barCell c) 0 ∗ each fun r h => waited r h c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => result (prods m ρ)
  Φ t := match t with
    | ⟨0, _⟩ => before m ρ c
    | ⟨_ + 1, _⟩ => after c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What each copy needs, put together. -/
theorem each_toSend (c : Dev nD) :
    iprop((each fun r h => atPos ER (sendCell r h c) 0 ∅ 0) ∗ (each fun r h => atPos ER (recvCell r h c) 0 ∅ 0) ∗ (each fun r h => cred (tallyAt (recvCell r h c) () N))
        ∗ (each fun r h => dutyTok ER (sendCell r h c) 0 0) ∗ each fun r h => dutyTok ER (recvCell r h (fwd r c)) 0 0)
      ⊢ (each fun r h => toSend (F := F) r h c) := by
  unfold toSend
  rw [each_sep, each_sep, each_sep, each_sep]

def entry (c : Dev nD) : sProp 𝕄 :=
  iprop(before m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def exit (c : Dev nD) : sProp 𝕄 :=
  iprop(after c ∗ (dats m ρ 0 c).owesAt () t0_0.succ ∗ stg c cc0_stg0_0 (xstg m ρ c) ∗ stg c cc0_stg1_0 (wstg m ρ c) ∗ stg c cc0_stg2_0 (result (prods m ρ)))

theorem entry_body (c : Dev nD) : entry m ρ c ⊢ iprop(∃ K, bodyPre (prods m ρ) K (xstg m ρ c) (wstg m ρ c) c) := by
  unfold entry before start scratch mine payToks bodyPre
  rw [bigSep_ci]
  iintro ⟨⟨⟨%K, Hctx, ⟨⟨HaB, HaS, HaR⟩, ⟨HtB1, HtB0⟩, HtS, HtR⟩, HcB, HcR⟩, Hs0, Hs1⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iexists K
  isplitl [Hctx]; · iexact Hctx
  isplitl [HaB]; · iexact HaB
  isplitl [HtB1]; · iexact HtB1
  isplitl [HtB0]; · iexact HtB0
  isplitl [HcB]; · iexact HcB
  isplitl [HaS HaR HcR HtS HtR]
  · iapply (each_toSend (F := F) c)
    isplitl [HaS]; · iexact HaS
    isplitl [HaR]; · iexact HaR
    isplitl [HcR]; · iexact HcR
    isplitl [HtS]; · iexact HtS
    iexact HtR
  isplitl [HO]
  · unfold owing; iexists W; iexact HO
  isplitl [Hx]; · iexact Hx
  isplitl [Hw]; · iexact Hw
  isplitl [Hout]; · iexists g2; iexact Hout
  isplitl [Hs0]; · iexact Hs0
  iexact Hs1

theorem body_exit (c : Dev nD) : bodyPost (prods m ρ) (xstg m ρ c) (wstg m ρ c) c ⊢ exit m ρ c := by
  unfold bodyPost exit after scratch owing Dat.owesAt Pipeline.owesWithin
  rw [show (dats m ρ 0 c).owed t0_0.succ = 0 from rfl]
  iintro ⟨⟨%W, HO⟩, Hx, Hw, Hout, Hs0, Hs1, HzB, Hz⟩
  isplitl [Hs0 Hs1 HzB Hz]
  · isplitl [Hs0 Hs1]
    · isplitl [Hs0]; · iexact Hs0
      iexact Hs1
    isplitl [HzB]; · iexact HzB
    iexact Hz
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 8000 in
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole_eq]
  show entry m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) cc0_scratch2 cc0_scratch3) (fun _ => exit m ρ c)
  iintro H
  ihave H := (entry_body m ρ c) $$ H
  icases H with ⟨%K, H⟩
  iapply (sound_body (prods m ρ) K (xstg m ρ c) (wstg m ρ c) c (fun _ _ => rfl) fun _ => exit m ρ c)
  isplitl [H]; · iexact H
  iintro H
  iapply (body_exit m ρ c); iexact H

/-! ## The launch -/

theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (prods m ρ) c)
      ⊢ |={Set.univ}=> iprop(start m ρ c ∗ emp) := by
  unfold start G' ctx
  iintro ⟨-, Hlev, Hcr, -, ⟨%K, HR, Hm⟩⟩
  ihave Hc := (creds (F := F) c) $$ Hcr
  icases Hc with ⟨HB, HC⟩
  imodintro
  isplitl
  · iexists K
    isplitl [HR Hlev]
    · isplitl [HR]; · iexact HR
      iexact Hlev
    isplitl [Hm]; · iexact Hm
    isplitl [HB]; · iexact HB
    iexact HC
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq, ownSems0_eq, unscopedSems0_eq]
  unfold after scratch waited
  rw [each_sep]
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_of_above c _ (by
      rw [show lv ((c : Thread nD τ), SemLoc.dma (((cfgs 0).win w).sem s)) () = 0 from by fin_cases w <;> fin_cases s <;> rfl]
      rcases t with ⟨_ | _, ht⟩
      · exact above_O₀ c
      · exact above_zero 0)

/-! ## The run -/

/-- Array `w` of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run ends, on every device, with the arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (prods m ρ)) (G' := G' (prods m ρ)) (u₀ := u₀)
    (hu₀ := by
      unfold u₀
      iintro Hu
      ihave H := (ownU_pair _ _) $$ Hu
      icases H with ⟨HP, HX⟩
      imod (fund_ring (prods m ρ)) $$ HX with HG
      imodintro
      isplitl [HP] <;> iassumption)
    (hglob := glob (prods m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- `x` and the weights end as they were. -/
theorem finalA_x (c : Dev nD) : finalA m ρ c (0 : Fin 3) = (s₀ m ρ).mem (win0_0.arr.view.loc (c : Thread nD τ)) := (dats (F := F) m ρ 0 c).arrAt_in (0 : Fin 3) rfl _
theorem finalA_w (c : Dev nD) : finalA m ρ c (1 : Fin 3) = (s₀ m ρ).mem (win0_1.arr.view.loc (c : Thread nD τ)) := (dats (F := F) m ρ 0 c).arrAt_in (1 : Fin 3) rfl _

/-- The frame. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 3)).trans (finalA_x m ρ c), (h.1 c (1 : Fin 3)).trans (finalA_w m ρ c)⟩, h.2⟩) (run_main m ρ)

end Cert.AllReduce
-- ==== Proof.Value.lean ====
/-
# The value of the kernel over the reals

One device's product read at an index, the sum of all devices' products as one sum over all 2048 contracted
coordinates, and the kernel's result as the reference's.
-/
module

public import proofs.«01_k».proof.Proof.Launch
public import proofs.«01_k».proof.Proof.Gen.ReferenceIdeal.Run
public import Idealize.ShloMosaic.Lib.Pointwise
public import Idealize.ShloMosaic.Lib.ValueIdx
public import Idealize.ShloMosaic.Lib.Layout
public import Idealize.ShloMosaic.Lib.Pipeline.ValueKit.Acc

@[expose] public section

noncomputable section

namespace Cert.AllReduce

open Cert.KernelIdeal Cert.KernelIdeal.Gen
open Idealize.ShloMosaic
open Idealize.ShloMosaic.TcCoe

/-- Column `b` of half `r`, among all the columns. -/
def col (r : Fin 2) (b : Fin 1024) : Fin 2048 := ⟨1024 * r.val + b.val, by omega⟩
/-- Row `a` of row block `i`, among all the rows. -/
def row (i : Dev nD) (a : Fin 512) : Fin 2048 := ⟨512 * i.val + a.val, by have h : i.val < 4 := i.isLt; omega⟩

/-- The left half of a device's product, read at a row and a column. -/
theorem left_apply (x : Vec Ideal S2048x512 .bf16) (w : Vec Ideal S512x2048 .bf16) (a : Fin 2048) (b : Fin 1024) :
    k0_pay4 x w (ix3 0 a b) = ∑ k : Fin 512, x (ix2 a k) * w (ix2 k (col 0 b)) := by
  pointwise [k0_pay4, k0_pay3, k0_pay2, col]

/-- And the right half. -/
theorem right_apply (x : Vec Ideal S2048x512 .bf16) (w : Vec Ideal S512x2048 .bf16) (a : Fin 2048) (b : Fin 1024) :
    k0_pay5 x w (ix3 0 a b) = ∑ k : Fin 512, x (ix2 a k) * w (ix2 k (col 1 b)) := by
  pointwise [k0_pay5, k0_pay3, k0_pay2, col]

theorem halves_apply (x : Vec Ideal S2048x512 .bf16) (w : Vec Ideal S512x2048 .bf16) (r : Fin 2) (a : Fin 2048) (b : Fin 1024) :
    halves x w r (ix3 0 a b) = ∑ k : Fin 512, x (ix2 a k) * w (ix2 k (col r b)) := by
  match r with
  | ⟨0, _⟩ => exact left_apply x w a b
  | ⟨1, _⟩ => exact right_apply x w a b

/-- A row block of a half, at its row and column. -/
theorem rows_apply (A : Vec Ideal S1x2048x1024 .bf16) (i : Dev nD) (a : Fin 512) (b : Fin 1024) :
    rows A i (ix2 a b) = A (ix3 0 (row i a) b) := by
  have h : rows A i (ix2 a b) = A (rowIdx i (ix3 0 a b)) := by
    pointwise [rows]
  rw [h]
  refine congrArg A (funext fun q => Fin.ext ?_)
  match q with
  | ⟨0, _⟩ => rfl
  | ⟨1, _⟩ => rfl
  | ⟨2, _⟩ => rfl

/-- The positive part of a block of sums, at one place. -/
theorem relu_apply (T : Blk Ideal) (j : S512x1024.Idx) : reluBlk T j = max (T j) 0 := by
  obtain ⟨a, b, rfl⟩ : ∃ a b, j = ix2 a b := ⟨j 0, j 1, by funext q; fin_cases q <;> rfl⟩
  pointwise [reluBlk, k0_pay1]

/-- Going round a ring from any device one meets every device once: what is added on the way is the sum of all devices'
    blocks. -/
theorem total_apply (P : Fin 2 → Dev nD → Dev nD → Blk Ideal) (r : Fin 2) (i : Dev nD) (j : S512x1024.Idx) :
    total P r i j = ∑ c : Dev nD, (P r c i j : Ideal .bf16) := by
  have step (k m : ℕ) (hk : m + k + 1 = 4) : (partialSum P r (k + 1) (back r m i) j : Ideal .bf16)
      = (P r (back r m i) i j : Ideal .bf16) + (partialSum P r k (back r (m + 1) i) j : Ideal .bf16) := by
    have e : back r (k + 1) (back r m i) = i := by
      rw [back_back, show k + 1 + m = 0 + 4 from by omega, back_four, back_zero]
    show (P r (back r m i) (back r (k + 1) (back r m i)) j : Ideal .bf16) + (partialSum P r k (bwd r (back r m i)) j : Ideal .bf16) = _
    rw [e, bwd_back]
  have last : (partialSum P r 0 (back r 4 i) j : Ideal .bf16) = (P r (back r 0 i) i j : Ideal .bf16) := by
    show (P r (back r (0 + 4) i) (back r (0 + 4) i) j : Ideal .bf16) = _
    rw [back_four, back_zero]
  have h : total P r i j = (P r (back r 1 i) i j : Ideal .bf16)
      + ((P r (back r 2 i) i j : Ideal .bf16) + ((P r (back r 3 i) i j : Ideal .bf16) + (P r (back r 0 i) i j : Ideal .bf16))) := by
    rw [← last, ← step 0 3 rfl, ← step 1 2 rfl, ← step 2 1 rfl]; rfl
  rw [h, ← Equiv.sum_comp (order r i) (fun c => (P r c i j : Ideal .bf16)), Fin.sum_univ_four]
  show _ = (P r (back r 0 i) i j : Ideal .bf16) + (P r (back r 1 i) i j : Ideal .bf16) + (P r (back r 2 i) i j : Ideal .bf16) + (P r (back r 3 i) i j : Ideal .bf16)
  abel

/-! ## The whole result -/

/-- The place of a block's row and column in the whole result. -/
theorem outR_at (r : Fin 2) (i : Dev nD) (a : Fin 512) (b : Fin 1024) : (outR r i).emb (ix2 a b) = (ix2 (row i a) (col r b) : S2048x2048.Idx) := by
  funext q
  refine Fin.ext ?_
  rw [ValueKit.rect_emb_unit_val]
  match q with
  | ⟨0, _⟩ => rfl
  | ⟨1, _⟩ => rfl

/-- The columns of `x` on device `c`. -/
abbrev xOn (X : Vec Ideal S2048x2048 .bf16) (c : Dev nD) : Vec Ideal S2048x512 .bf16 := Layout.block ⟨2, ![2048, 512]⟩ ⟨2, ![2048, 2048]⟩ 1 4 c X
/-- The rows of the weights on device `c`. -/
abbrev wOn (W : Vec Ideal S2048x2048 .bf16) (c : Dev nD) : Vec Ideal S512x2048 .bf16 := Layout.block ⟨2, ![512, 2048]⟩ ⟨2, ![2048, 2048]⟩ 0 4 c W

/-- The products of the devices, with each device's part of the contracted axis. -/
abbrev parts (X W : Vec Ideal S2048x2048 .bf16) (r : Fin 2) (c i : Dev nD) : Blk Ideal := rows (halves (xOn X c) (wOn W c) r) i

/-- The devices' sums over 512 coordinates each are together the sum over all 2048. -/
theorem sum_parts (X W : Vec Ideal S2048x2048 .bf16) (r : Fin 2) (i : Dev nD) (a : Fin 512) (b : Fin 1024) :
    total (parts X W) r i (ix2 a b) = ∑ l : Fin 2048, X (ix2 (row i a) l) * W (ix2 l (col r b)) := by
  rw [total_apply]
  have h (c : Dev nD) : (parts X W r c i (ix2 a b) : Ideal .bf16) = ∑ k : Fin 512, xOn X c (ix2 (row i a) k) * wOn W c (ix2 k (col r b)) :=
    (rows_apply _ i a b).trans (halves_apply _ _ r (row i a) b)
  simp only [h]
  refine Fin.sum_mul_add_congr fun c k hl => ?_
  congr 1
  · refine congrArg X (funext fun q => Fin.ext ?_)
    match q with
    | ⟨0, _⟩ => rfl
    | ⟨1, _⟩ => rfl
  · refine congrArg W (funext fun q => Fin.ext ?_)
    match q with
    | ⟨0, _⟩ => rfl
    | ⟨1, _⟩ => rfl

/-- The reference's result: the product, rounded to bf16 and taken back, and its positive part. -/
abbrev refOut (X W : FVec Ideal Cert.ReferenceIdeal.S2048x2048 .bf16) : FVec Ideal Cert.ReferenceIdeal.S2048x2048 .f32 :=
  maximumf (F := Ideal) (extf (F := Ideal) .f32 (truncf (F := Ideal) .bf16
      (Host.dotGeneral (F := Ideal) Cert.ReferenceIdeal.dot_S2048x2048_S2048x2048_S2048x2048_1_0_0_1_n_n none X W)
      Cert.ReferenceIdeal.Facts₀.bitsLt_bf16_f32) Cert.ReferenceIdeal.Facts₀.bitsLt_bf16_f32)
    (broadcastInDim Cert.ReferenceIdeal.S2048x2048 ![] Cert.ReferenceIdeal.Facts₀.bcast_S_S2048x2048 (constant Cert.ReferenceIdeal.S_ .f32 0x00000000#32))

/-- It read at a row and a column. -/
theorem refOut_apply (X W : Vec Ideal S2048x2048 .bf16) (p q : Fin 2048) :
    refOut X W (ix2 p q) = max (∑ l : Fin 2048, X (ix2 p l) * W (ix2 l q)) 0 := by
  pointwise [refOut]

/-- The kernel's result is the reference's. -/
theorem result_eq (X W : Vec Ideal S2048x2048 .bf16) : result (parts X W) = refOut X W := by
  funext j
  obtain ⟨r, i, a, b, rfl⟩ : ∃ r i a b, j = (outR r i).emb (ix2 a b) := by
    have hj : j ∈ (Finset.univ : Finset (Fin 2 × Dev nD)).biUnion (fun t => (outR t.1 t.2).set) := by rw [outR_cover]; exact Finset.mem_univ j
    obtain ⟨t, -, ht⟩ := Finset.mem_biUnion.mp hj
    rw [← Rect.map_emb_univ, Finset.mem_map] at ht
    obtain ⟨e, -, rfl⟩ := ht
    exact ⟨t.1, t.2, e 0, e 1, congrArg _ (funext fun q => by fin_cases q <;> rfl)⟩
  unfold result
  rw [whole_emb, relu_apply, sum_parts, outR_at, refOut_apply]

/-! ## What the run reads and leaves -/

section Memory
variable {F : FTy → Type} [FloatOps F] (m : (ℓ : Loc nD τ sig) → Buf (Elt F) ℓ) (ρ : Dev nD → PrngReg)

/-- Device `c` works on its whole part of `x` -/
theorem xstg_eq (c : Dev nD) : xstg m ρ c = m ((c.tc : Thread nD τ).loc main_arg0) :=
  Memref.read_access_unit_zero (Elt F) main_arg0 (funext fun a => by fin_cases a <;> decide) (fun a => by fin_cases a <;> decide) _

/-- and of the weights. -/
theorem wstg_eq (c : Dev nD) : wstg m ρ c = m ((c.tc : Thread nD τ).loc main_arg1) :=
  Memref.read_access_unit_zero (Elt F) main_arg1 (funext fun a => by fin_cases a <;> decide) (fun a => by fin_cases a <;> decide) _

/-- The result array ends at the whole result, on every device. -/
theorem finalA_out (c : Dev nD) : finalA m ρ c (2 : Fin 3) = result (prods m ρ) := by
  have h : (win0_2.blk (0 : Fin 1)).view.read (Elt F) (finalA m ρ c (2 : Fin 3)) = result (prods m ρ) := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hr := Memref.read_access_unit_zero (Elt F) main_v1 (off := fun a => (win0_2.index (0 : Fin 1)) a * main_v1.ty.shape.size a) (funext fun a => by fin_cases a <;> decide) (fun a => by fin_cases a <;> decide) (finalA m ρ c (2 : Fin 3))
  exact hr.symm.trans h

end Memory

variable (m : (ℓ : Loc nD τ sig) → Buf (Elt Ideal) ℓ) (ρ : Dev nD → PrngReg)

/-- From a memory that holds on each device its part of `X` and `W`, the kernel ends on every device with the reference's
    result of the whole `X` and `W`. -/
theorem run_value (X W : Vec Ideal S2048x2048 .bf16) (hx : ∀ c : Dev nD, m ((c.tc : Thread nD τ).loc main_arg0) = xOn X c)
    (hw : ∀ c : Dev nD, m ((c.tc : Thread nD τ).loc main_arg1) = wOn W c) :
    θ_run defs (onTc (τ := τ) (main (F := Ideal))) ⟨m, fun _ => 0, ρ⟩ (fun r => ∀ c : Dev nD,
      r.2.mem ((c.tc : Thread nD τ).loc main_v1) = refOut X W
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hp : prods m ρ = parts X W := by
    funext r c i
    show rows (halves (xstg m ρ c) (wstg m ρ c) r) i = _
    rw [xstg_eq, wstg_eq, hx, hw]
  have hv (c : Dev nD) : finalA m ρ c (2 : Fin 3) = refOut X W := by rw [finalA_out, hp, result_eq]
  exact (θ_run defs _ _).mono (fun _ h c => ⟨(h.1 c (2 : Fin 3)).trans (hv c), (h.1 c (0 : Fin 3)).trans (finalA_x m ρ c), (h.1 c (1 : Fin 3)).trans (finalA_w m ρ c)⟩) (run_main m ρ)

end Cert.AllReduce
-- ==== Proof.lean ====
/-
# The claims

The kernel (an all-reduce of the four devices' products on two rings, and its positive part) and its frame at both
readings of the floats, the frame of the reference, and the equation of the two over the reals. The run of the kernel is
`Cert.AllReduce.run_frame` (Proof/Launch.lean), its value `Cert.AllReduce.run_value` (Proof/Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Claim
public import Idealize.ShloMosaic.Adequacy
public import Idealize.ShloMosaic.Init

@[expose] public section

noncomputable section

namespace Cert.Proof

open Idealize.ShloMosaic Idealize.SL.Sem

section Same
variable {F : FTy → Type} [FloatOps F]

/-- The two printed bodies are one text -/
theorem body_same : Cert.Kernel.cc0_body (F := F) = Cert.KernelIdeal.cc0_body (F := F) := rfl

/-- called from one table, -/
theorem table_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  match l, a with
  | 0, (t, s) => simp only [body_same (F := F)]

/-- so the two programs are one. -/
theorem defs_same : Cert.Kernel.defs (F := F) = Cert.KernelIdeal.defs (F := F) := by
  unfold Cert.Kernel.defs Cert.KernelIdeal.defs
  rw [table_same]; rfl

end Same

/-- The frame of the kernel over the machine's floats, from the same run. -/
theorem frame_kernel : Cert.quiescent_Kernel := fun m ρ _ => by
  rw [defs_same]
  exact AllReduce.run_frame (F := Bits) m ρ

/-- The frame of the kernel over the reals. -/
theorem frame_kernelIdeal : Cert.quiescent_KernelIdeal := fun m ρ _ => AllReduce.run_frame (F := Ideal) m ρ

/-- The frame of the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two texts of the kernel differ in no operation. -/
theorem preserves : Cert.preserves_Kernel_KernelIdeal := trivial

/-- Over the reals, every device ends with the reference's result of the whole arrays. -/
theorem algebraic : Cert.algebraic_KernelIdeal_ReferenceIdeal := fun m ρ m' ρ' _ hagree =>
  ⟨AllReduce.refOut _ _, AllReduce.run_value m ρ _ _ (fun c => (hagree c).1) (fun c => (hagree c).2),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, preserves, algebraic⟩

end Cert.Proof

end
